-- ==== Defs.lean ====
def Pre_Kernel [hPre_first_positive : Cert.Pre_first_positive.Facts] (m : (ℓ : Loc Cert.Kernel.nD Cert.Kernel.τ Cert.Kernel.sig) → Buf (Elt Bits) ℓ) : Prop :=
  ∀ c : Dev Cert.Kernel.nD,
    (Cert.Pre_first_positive.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_first_positive : Cert.Pre_first_positive.Facts] (m : (ℓ : Loc Cert.KernelIdeal.nD Cert.KernelIdeal.τ Cert.KernelIdeal.sig) → Buf (Elt Ideal) ℓ) : Prop :=
  ∀ c : Dev Cert.KernelIdeal.nD,
    (Cert.Pre_first_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_steps_finite [hPre_steps_finite : Cert.Pre_steps_finite.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite [hPre_steps_finite : Cert.Pre_steps_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2 = (fun _ => 1#1)

def quiescent_Kernel [hKernel : Cert.Kernel.Facts] [hPre_first_positive : Cert.Pre_first_positive.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_first_positive : Cert.Pre_first_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_steps_finite [hKernelIdeal : Cert.KernelIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_steps_finite [hReferenceIdeal : Cert.ReferenceIdeal.Facts] [hPre_steps_finite : Cert.Pre_steps_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_steps_finite [hKernelIdeal : Cert.KernelIdeal.Facts] [hReferenceIdeal : Cert.ReferenceIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_first_positive : Cert.Pre_first_positive.Facts) (hPre_steps_finite : Cert.Pre_steps_finite.Facts),
    quiescent_Kernel (hKernel := hKernel) (hPre_first_positive := hPre_first_positive)
    ∧ quiescent_KernelIdeal (hKernelIdeal := hKernelIdeal) (hPre_first_positive := hPre_first_positive)
    ∧ quiescent_KernelIdeal_pre_steps_finite (hKernelIdeal := hKernelIdeal) (hPre_steps_finite := hPre_steps_finite)
    ∧ quiescent_ReferenceIdeal (hReferenceIdeal := hReferenceIdeal)
    ∧ quiescent_ReferenceIdeal_pre_steps_finite (hReferenceIdeal := hReferenceIdeal) (hPre_steps_finite := hPre_steps_finite)
    ∧ preserves_Kernel_KernelIdeal
    ∧ algebraic_KernelIdeal_ReferenceIdeal_pre_steps_finite (hKernelIdeal := hKernelIdeal) (hReferenceIdeal := hReferenceIdeal) (hPre_steps_finite := hPre_steps_finite)
-- ==== Pre_first_positive.lean ====
abbrev S16x2048x512 : Shape := ⟨3, ![16, 2048, 512]⟩
abbrev S16 : Shape := ⟨1, ![16]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S1 : Shape := ⟨1, ![1]⟩
abbrev S_ : Shape := ⟨0, ![]⟩

class Facts : Prop where
  slices_S16_S1_0 : S16.Slices ![0] S1
  bcast_S_S1 : S_.BroadcastsInDim S1 (![] : Fin 0 → Fin S1.rank)

variable [Facts]

def fn {F : FTy → Type} [FloatOps F] (main_arg0 : FVec F S16x2048x512 .f32) (main_arg1 : IVec S16 32) (main_arg2 : FVec F S512x512 .f32) (main_arg3 : FVec F S512 .f32) (main_arg4 : FVec F S512x64 .f32) (main_arg5 : FVec F S64 .f32) (main_arg6 : FVec F S64x64 .f32) (main_arg7 : FVec F S64x64 .f32) (main_arg8 : FVec F S64 .f32) (main_arg9 : FVec F S64 .f32) (main_arg10 : FVec F S64x64 .f32) (main_arg11 : FVec F S64 .f32) : IVec S1 1 :=
  let main_v0 : IVec S1 32 := (extractStridedSlice S1 ![0] · slices_S16_S1_0) main_arg1
  let main_c : IVec S_ 32 := constantI S_ 32 1#32
  let main_v1 : IVec S1 32 := broadcastInDim S1 ![] bcast_S_S1 main_c
  let main_v2 : IVec S1 1 := cmpi .sge main_v0 main_v1
  main_v2
-- ==== Pre_steps_finite.lean ====
abbrev S16x2048x512 : Shape := ⟨3, ![16, 2048, 512]⟩
abbrev S16 : Shape := ⟨1, ![16]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S1 : Shape := ⟨1, ![1]⟩
abbrev S_ : Shape := ⟨0, ![]⟩

class Facts : Prop where
  bcast_S16_S16x2048x512_0 : S16.BroadcastsInDim S16x2048x512 (![0] : Fin 1 → Fin S16x2048x512.rank)
  slices_S16_S1_0 : S16.Slices ![0] S1
  bcast_S_S1 : S_.BroadcastsInDim S1 (![] : Fin 0 → Fin S1.rank)
  shapeCasts_S1_S_ : S1.ShapeCasts S_
  bcast_S_S16 : S_.BroadcastsInDim S16 (![] : Fin 0 → Fin S16.rank)
  bcast_S_S16x2048x512 : S_.BroadcastsInDim S16x2048x512 (![] : Fin 0 → Fin S16x2048x512.rank)
  bcast_S_S512x512 : S_.BroadcastsInDim S512x512 (![] : Fin 0 → Fin S512x512.rank)
  bcast_S_S512x64 : S_.BroadcastsInDim S512x64 (![] : Fin 0 → Fin S512x64.rank)
  bcast_S_S64x64 : S_.BroadcastsInDim S64x64 (![] : Fin 0 → Fin S64x64.rank)

variable [Facts]

def fn_part1 {F : FTy → Type} [FloatOps F] (main_arg6 : FVec F S64x64 .f32) (main_v5 : IVec S1 1) (main_v9 : IVec S16 1) (main_v13 : IVec S16x2048x512 1) (main_v16 : IVec S512x512 1) (main_v19 : IVec S512x64 1) : IVec S1 1 × IVec S16 1 × IVec S16x2048x512 1 × IVec S512x512 1 × IVec S512x64 1 × IVec S64x64 1 :=
  let main_v20 : FVec F S64x64 .f32 := Host.absf main_arg6
  let main_cst_2 : FVec F S_ .f32 := constant S_ .f32 0x7F800000#32
  let main_v21 : FVec F S64x64 .f32 := broadcastInDim S64x64 ![] bcast_S_S64x64 main_cst_2
  let main_v22 : IVec S64x64 1 := cmpf .olt main_v20 main_v21
  (main_v5, main_v9, main_v13, main_v16, main_v19, main_v22)

def fn {F : FTy → Type} [FloatOps F] (main_arg0 : FVec F S16x2048x512 .f32) (main_arg1 : IVec S16 32) (main_arg2 : FVec F S512x512 .f32) (main_arg3 : FVec F S512 .f32) (main_arg4 : FVec F S512x64 .f32) (main_arg5 : FVec F S64 .f32) (main_arg6 : FVec F S64x64 .f32) (main_arg7 : FVec F S64x64 .f32) (main_arg8 : FVec F S64 .f32) (main_arg9 : FVec F S64 .f32) (main_arg10 : FVec F S64x64 .f32) (main_arg11 : FVec F S64 .f32) : IVec S1 1 × IVec S16 1 × IVec S16x2048x512 1 × IVec S512x512 1 × IVec S512x64 1 × IVec S64x64 1 :=
  let main_v0 : IVec S16x2048x512 32 := iotaInDim S16x2048x512 32 1
  let main_v1 : IVec S16x2048x512 32 := broadcastInDim S16x2048x512 ![0] bcast_S16_S16x2048x512_0 main_arg1
  let main_v2 : IVec S16x2048x512 1 := cmpi .sge main_v0 main_v1
  let main_v3 : IVec S1 32 := (extractStridedSlice S1 ![0] · slices_S16_S1_0) main_arg1
  let main_c : IVec S_ 32 := constantI S_ 32 1#32
  let main_v4 : IVec S1 32 := broadcastInDim S1 ![] bcast_S_S1 main_c
  let main_v5 : IVec S1 1 := cmpi .sge main_v3 main_v4
  let main_v6 : IVec S1 32 := (extractStridedSlice S1 ![0] · slices_S16_S1_0) main_arg1
  let main_v7 : IVec S_ 32 := shapeCast S_ main_v6 shapeCasts_S1_S_
  let main_v8 : IVec S16 32 := broadcastInDim S16 ![] bcast_S_S16 main_v7
  let main_v9 : IVec S16 1 := cmpi .sle main_arg1 main_v8
  let main_v10 : FVec F S16x2048x512 .f32 := Host.absf main_arg0
  let main_cst : FVec F S_ .f32 := constant S_ .f32 0x7F800000#32
  let main_v11 : FVec F S16x2048x512 .f32 := broadcastInDim S16x2048x512 ![] bcast_S_S16x2048x512 main_cst
  let main_v12 : IVec S16x2048x512 1 := cmpf .olt main_v10 main_v11
  let main_v13 : IVec S16x2048x512 1 := ori main_v2 main_v12
  let main_v14 : FVec F S512x512 .f32 := Host.absf main_arg2
  let main_cst_0 : FVec F S_ .f32 := constant S_ .f32 0x7F800000#32
  let main_v15 : FVec F S512x512 .f32 := broadcastInDim S512x512 ![] bcast_S_S512x512 main_cst_0
  let main_v16 : IVec S512x512 1 := cmpf .olt main_v14 main_v15
  let main_v17 : FVec F S512x64 .f32 := Host.absf main_arg4
  let main_cst_1 : FVec F S_ .f32 := constant S_ .f32 0x7F800000#32
  let main_v18 : FVec F S512x64 .f32 := broadcastInDim S512x64 ![] bcast_S_S512x64 main_cst_1
  let main_v19 : IVec S512x64 1 := cmpf .olt main_v17 main_v18
  fn_part1 (F := F) main_arg6 main_v5 main_v9 main_v13 main_v16 main_v19
-- ==== Kernel.lean ====
abbrev S16x2048x512 : Shape := ⟨3, ![16, 2048, 512]⟩
abbrev S16 : Shape := ⟨1, ![16]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S16x1 : Shape := ⟨2, ![16, 1]⟩
abbrev S1 : Shape := ⟨1, ![1]⟩
abbrev S1x512 : Shape := ⟨2, ![1, 512]⟩
abbrev S1x64 : Shape := ⟨2, ![1, 64]⟩
abbrev S16x64 : Shape := ⟨2, ![16, 64]⟩
abbrev S16x256x512 : Shape := ⟨3, ![16, 256, 512]⟩
abbrev S4096x64 : Shape := ⟨2, ![4096, 64]⟩
abbrev S4096x512 : Shape := ⟨2, ![4096, 512]⟩
abbrev S16x256x64 : Shape := ⟨3, ![16, 256, 64]⟩
abbrev S256x16x64 : Shape := ⟨3, ![256, 16, 64]⟩
abbrev S8x64 : Shape := ⟨2, ![8, 64]⟩
abbrev S8x1 : Shape := ⟨2, ![8, 1]⟩

abbrev nBuf : Space → Nat
  | .hbm => 20
  | .vmem => 19
  | .smem => 1
  | _ => 0

abbrev bufTy : (tb : Table) → Fin (tcTables nBuf tb) → BufTy
  | .hbm, ⟨0, _⟩ => ⟨S16x2048x512, .f32⟩
  | .hbm, ⟨1, _⟩ => ⟨S16, .i32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S16x1, .i32⟩
  | .hbm, ⟨13, _⟩ => ⟨S1, .i32⟩
  | .hbm, ⟨14, _⟩ => ⟨S1x512, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S16x64, .f32⟩
  | .local _ .vmem, ⟨0, _⟩ => ⟨S16x256x512, .f32⟩
  | .local _ .vmem, ⟨1, _⟩ => ⟨S16x256x512, .f32⟩
  | .local _ .vmem, ⟨2, _⟩ => ⟨S16x1, .i32⟩
  | .local _ .vmem, ⟨3, _⟩ => ⟨S512x512, .f32⟩
  | .local _ .vmem, ⟨4, _⟩ => ⟨S512x64, .f32⟩
  | .local _ .vmem, ⟨5, _⟩ => ⟨S64x64, .f32⟩
  | .local _ .vmem, ⟨6, _⟩ => ⟨S64x64, .f32⟩
  | .local _ .vmem, ⟨7, _⟩ => ⟨S1x512, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S16x64, .f32⟩
  | .local _ .vmem, ⟨14, _⟩ => ⟨S512x64, .f32⟩
  | .local _ .vmem, ⟨15, _⟩ => ⟨S1x64, .f32⟩
  | .local _ .vmem, ⟨16, _⟩ => ⟨S16x64, .f32⟩
  | .local _ .vmem, ⟨17, _⟩ => ⟨S16x64, .f32⟩
  | .local _ .vmem, ⟨18, _⟩ => ⟨S4096x64, .f32⟩
  | .local _ .smem, ⟨0, _⟩ => ⟨S1, .i32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![8], ![false]⟩

@[reducible] def k0_t1_loop (i : grid0.Coords) (v4 : BitVec 32) : Scf.Loop 32 :=
  let c0_i32_17 : BitVec 32 := 0#32
  let c256_i32_11 : BitVec 32 := 256#32
  let c0_i32_10 : BitVec 32 := 0#32
  let arg0 : BitVec 32 := BitVec.ofNat 32 (i 0).val
  let c256_i32 : BitVec 32 := 256#32
  let v3 : BitVec 32 := Scalar.muli arg0 c256_i32
  let v13 : BitVec 32 := Scalar.subi v4 v3
  let v14 : BitVec 32 := Scalar.maxsi c0_i32_10 v13
  let v15 : BitVec 32 := Scalar.minsi c256_i32_11 v14
  let c0_i32_12 : BitVec 32 := 0#32
  let v17 : BitVec 1 := Scalar.cmpi .sgt v15 c0_i32_12
  let v18 : BitVec 32 := Scalar.extui v17
  let c0_i32_13 : BitVec 32 := 0#32
  let v19 : BitVec 1 := Scalar.cmpi .slt v15 c0_i32_13
  let v20 : BitVec 32 := Scalar.extui v19
  let v21 : BitVec 32 := Scalar.subi v18 v20
  let c8_i32 : BitVec 32 := 8#32
  let c0_i32_14 : BitVec 32 := 0#32
  let v22 : BitVec 1 := Scalar.cmpi .sgt c8_i32 c0_i32_14
  let v23 : BitVec 32 := Scalar.extui v22
  let c0_i32_15 : BitVec 32 := 0#32
  let v24 : BitVec 1 := Scalar.cmpi .slt c8_i32 c0_i32_15
  let v25 : BitVec 32 := Scalar.extui v24
  let v26 : BitVec 32 := Scalar.subi v23 v25
  let v27 : BitVec 1 := Scalar.cmpi .ne v21 v26
  let v28 : BitVec 32 := Scalar.remsi v15 c8_i32
  let c0_i32_16 : BitVec 32 := 0#32
  let v29 : BitVec 1 := Scalar.cmpi .ne v28 c0_i32_16
  let v30 : BitVec 1 := Scalar.andi v27 v29
  let v16 : BitVec 32 := Scalar.divsi v15 c8_i32
  let c1_i32 : BitVec 32 := 1#32
  let v31 : BitVec 32 := Scalar.subi v16 c1_i32
  let v32 : BitVec 32 := Scalar.select v30 v31 v16
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_19 : BitVec 32 := 1#32
  ⟨c0_i32_17, v41, c1_i32_19⟩

def k0_off1 (i : grid0.Coords) (v4 : BitVec 32) (k0_t1 : Fin (k0_t1_loop i v4).trips) (c0_i32_32 : BitVec 32) : Fin 2 → Nat :=
  let c0_i32_17 : BitVec 32 := 0#32
  let c1_i32_19 : BitVec 32 := 1#32
  let arg20 : BitVec 32 := Scf.iv c0_i32_17 c1_i32_19 k0_t1
  let c8_i32_31 : BitVec 32 := 8#32
  let v64 : BitVec 32 := Scalar.muli arg20 c8_i32_31
  let v65 : BitVec 32 := Scalar.addi v64 c0_i32_32
  let c16_i32 : BitVec 32 := 16#32
  let v66 : BitVec 32 := Scalar.muli v65 c16_i32
  let v67 : Index := Scalar.indexCast v66
  let c0_33 : Index := 0#32
  ![v67.toNat, 0]
@[reducible] def k0_t2_loop (i : grid0.Coords) (v4 : BitVec 32) : Scf.Loop 32 :=
  let c0_i32_17 : BitVec 32 := 0#32
  let c256_i32_11 : BitVec 32 := 256#32
  let c0_i32_10 : BitVec 32 := 0#32
  let arg0 : BitVec 32 := BitVec.ofNat 32 (i 0).val
  let c256_i32 : BitVec 32 := 256#32
  let v3 : BitVec 32 := Scalar.muli arg0 c256_i32
  let v13 : BitVec 32 := Scalar.subi v4 v3
  let v14 : BitVec 32 := Scalar.maxsi c0_i32_10 v13
  let v15 : BitVec 32 := Scalar.minsi c256_i32_11 v14
  let c0_i32_12 : BitVec 32 := 0#32
  let v17 : BitVec 1 := Scalar.cmpi .sgt v15 c0_i32_12
  let v18 : BitVec 32 := Scalar.extui v17
  let c0_i32_13 : BitVec 32 := 0#32
  let v19 : BitVec 1 := Scalar.cmpi .slt v15 c0_i32_13
  let v20 : BitVec 32 := Scalar.extui v19
  let v21 : BitVec 32 := Scalar.subi v18 v20
  let c8_i32 : BitVec 32 := 8#32
  let c0_i32_14 : BitVec 32 := 0#32
  let v22 : BitVec 1 := Scalar.cmpi .sgt c8_i32 c0_i32_14
  let v23 : BitVec 32 := Scalar.extui v22
  let c0_i32_15 : BitVec 32 := 0#32
  let v24 : BitVec 1 := Scalar.cmpi .slt c8_i32 c0_i32_15
  let v25 : BitVec 32 := Scalar.extui v24
  let v26 : BitVec 32 := Scalar.subi v23 v25
  let v27 : BitVec 1 := Scalar.cmpi .ne v21 v26
  let v28 : BitVec 32 := Scalar.remsi v15 c8_i32
  let c0_i32_16 : BitVec 32 := 0#32
  let v29 : BitVec 1 := Scalar.cmpi .ne v28 c0_i32_16
  let v30 : BitVec 1 := Scalar.andi v27 v29
  let v16 : BitVec 32 := Scalar.divsi v15 c8_i32
  let c1_i32 : BitVec 32 := 1#32
  let v31 : BitVec 32 := Scalar.subi v16 c1_i32
  let v32 : BitVec 32 := Scalar.select v30 v31 v16
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let v38 : BitVec 32 := Scalar.addi c0_i32_17 v37
  let c1_i32_20 : BitVec 32 := 1#32
  ⟨v41, v38, c1_i32_20⟩
def k0_off2 (i : grid0.Coords) (v4 : BitVec 32) (k0_t2 : Fin (k0_t2_loop i v4).trips) (c0_i32_32 : BitVec 32) : Fin 2 → Nat :=
  let c0_i32_17 : BitVec 32 := 0#32
  let c256_i32_11 : BitVec 32 := 256#32
  let c0_i32_10 : BitVec 32 := 0#32
  let arg0 : BitVec 32 := BitVec.ofNat 32 (i 0).val
  let c256_i32 : BitVec 32 := 256#32
  let v3 : BitVec 32 := Scalar.muli arg0 c256_i32
  let v13 : BitVec 32 := Scalar.subi v4 v3
  let v14 : BitVec 32 := Scalar.maxsi c0_i32_10 v13
  let v15 : BitVec 32 := Scalar.minsi c256_i32_11 v14
  let c0_i32_12 : BitVec 32 := 0#32
  let v17 : BitVec 1 := Scalar.cmpi .sgt v15 c0_i32_12
  let v18 : BitVec 32 := Scalar.extui v17
  let c0_i32_13 : BitVec 32 := 0#32
  let v19 : BitVec 1 := Scalar.cmpi .slt v15 c0_i32_13
  let v20 : BitVec 32 := Scalar.extui v19
  let v21 : BitVec 32 := Scalar.subi v18 v20
  let c8_i32 : BitVec 32 := 8#32
  let c0_i32_14 : BitVec 32 := 0#32
  let v22 : BitVec 1 := Scalar.cmpi .sgt c8_i32 c0_i32_14
  let v23 : BitVec 32 := Scalar.extui v22
  let c0_i32_15 : BitVec 32 := 0#32
  let v24 : BitVec 1 := Scalar.cmpi .slt c8_i32 c0_i32_15
  let v25 : BitVec 32 := Scalar.extui v24
  let v26 : BitVec 32 := Scalar.subi v23 v25
  let v27 : BitVec 1 := Scalar.cmpi .ne v21 v26
  let v28 : BitVec 32 := Scalar.remsi v15 c8_i32
  let c0_i32_16 : BitVec 32 := 0#32
  let v29 : BitVec 1 := Scalar.cmpi .ne v28 c0_i32_16
  let v30 : BitVec 1 := Scalar.andi v27 v29
  let v16 : BitVec 32 := Scalar.divsi v15 c8_i32
  let c1_i32 : BitVec 32 := 1#32
  let v31 : BitVec 32 := Scalar.subi v16 c1_i32
  let v32 : BitVec 32 := Scalar.select v30 v31 v16
  let v37 : BitVec 32 := Scalar.subi v32 c0_i32_17
  let c1_i32_18 : BitVec 32 := 1#32
  let v39 : BitVec 32 := Scalar.divsi v37 c1_i32_18
  let v40 : BitVec 32 := Scalar.muli v39 c1_i32_18
  let v41 : BitVec 32 := Scalar.addi c0_i32_17 v40
  let c1_i32_20 : BitVec 32 := 1#32
  let arg20 : BitVec 32 := Scf.iv v41 c1_i32_20 k0_t2
  let c8_i32_31 : BitVec 32 := 8#32
  let v64 : BitVec 32 := Scalar.muli arg20 c8_i32_31
  let v65 : BitVec 32 := Scalar.addi v64 c0_i32_32
  let c16_i32 : BitVec 32 := 16#32
  let v66 : BitVec 32 := Scalar.muli v65 c16_i32
  let v67 : Index := Scalar.indexCast v66
  let c0_33 : Index := 0#32
  ![v67.toNat, 0]
@[reducible] def k0_t3_loop (i : grid0.Coords) (v4 : BitVec 32) : Scf.Loop 32 :=
  let c0_i32_22 : BitVec 32 := 0#32
  let c256_i32_11 : BitVec 32 := 256#32
  let c0_i32_10 : BitVec 32 := 0#32
  let arg0 : BitVec 32 := BitVec.ofNat 32 (i 0).val
  let c256_i32 : BitVec 32 := 256#32
  let v3 : BitVec 32 := Scalar.muli arg0 c256_i32
  let v13 : BitVec 32 := Scalar.subi v4 v3
  let v14 : BitVec 32 := Scalar.maxsi c0_i32_10 v13
  let v15 : BitVec 32 := Scalar.minsi c256_i32_11 v14
  let c0_i32_12 : BitVec 32 := 0#32
  let v17 : BitVec 1 := Scalar.cmpi .sgt v15 c0_i32_12
  let v18 : BitVec 32 := Scalar.extui v17
  let c0_i32_13 : BitVec 32 := 0#32
  let v19 : BitVec 1 := Scalar.cmpi .slt v15 c0_i32_13
  let v20 : BitVec 32 := Scalar.extui v19
  let v21 : BitVec 32 := Scalar.subi v18 v20
  let c8_i32 : BitVec 32 := 8#32
  let c0_i32_14 : BitVec 32 := 0#32
  let v22 : BitVec 1 := Scalar.cmpi .sgt c8_i32 c0_i32_14
  let v23 : BitVec 32 := Scalar.extui v22
  let c0_i32_15 : BitVec 32 := 0#32
  let v24 : BitVec 1 := Scalar.cmpi .slt c8_i32 c0_i32_15
  let v25 : BitVec 32 := Scalar.extui v24
  let v26 : BitVec 32 := Scalar.subi v23 v25
  let v27 : BitVec 1 := Scalar.cmpi .ne v21 v26
  let v28 : BitVec 32 := Scalar.remsi v15 c8_i32
  let c0_i32_16 : BitVec 32 := 0#32
  let v29 : BitVec 1 := Scalar.cmpi .ne v28 c0_i32_16
  let v30 : BitVec 1 := Scalar.andi v27 v29
  let v16 : BitVec 32 := Scalar.divsi v15 c8_i32
  let c1_i32 : BitVec 32 := 1#32
  let v31 : BitVec 32 := Scalar.subi v16 c1_i32
  let v32 : BitVec 32 := Scalar.select v30 v31 v16
  let c8_i32_21 : BitVec 32 := 8#32
  let v44 : BitVec 32 := Scalar.muli v32 c8_i32_21
  let v45 : BitVec 32 := Scalar.subi v15 v44
  let v46 : BitVec 32 := Scalar.subi v45 c0_i32_22
  let c1_i32_23 : BitVec 32 := 1#32
  let v48 : BitVec 32 := Scalar.divsi v46 c1_i32_23
  let v49 : BitVec 32 := Scalar.muli v48 c1_i32_23
  let v50 : BitVec 32 := Scalar.addi c0_i32_22 v49
  let c1_i32_24 : BitVec 32 := 1#32
  ⟨c0_i32_22, v50, c1_i32_24⟩
def k0_off3 (i : grid0.Coords) (v4 : BitVec 32) (k0_t3 : Fin (k0_t3_loop i v4).trips) : Fin 2 → Nat :=
  let c256_i32_11 : BitVec 32 := 256#32
  let c0_i32_10 : BitVec 32 := 0#32
  let arg0 : BitVec 32 := BitVec.ofNat 32 (i 0).val
  let c256_i32 : BitVec 32 := 256#32
  let v3 : BitVec 32 := Scalar.muli arg0 c256_i32
  let v13 : BitVec 32 := Scalar.subi v4 v3
  let v14 : BitVec 32 := Scalar.maxsi c0_i32_10 v13
  let v15 : BitVec 32 := Scalar.minsi c256_i32_11 v14
  let c0_i32_12 : BitVec 32 := 0#32
  let v17 : BitVec 1 := Scalar.cmpi .sgt v15 c0_i32_12
  let v18 : BitVec 32 := Scalar.extui v17
  let c0_i32_13 : BitVec 32 := 0#32
  let v19 : BitVec 1 := Scalar.cmpi .slt v15 c0_i32_13
  let v20 : BitVec 32 := Scalar.extui v19
  let v21 : BitVec 32 := Scalar.subi v18 v20
  let c8_i32 : BitVec 32 := 8#32
  let c0_i32_14 : BitVec 32 := 0#32
  let v22 : BitVec 1 := Scalar.cmpi .sgt c8_i32 c0_i32_14
  let v23 : BitVec 32 := Scalar.extui v22
  let c0_i32_15 : BitVec 32 := 0#32
  let v24 : BitVec 1 := Scalar.cmpi .slt c8_i32 c0_i32_15
  let v25 : BitVec 32 := Scalar.extui v24
  let v26 : BitVec 32 := Scalar.subi v23 v25
  let v27 : BitVec 1 := Scalar.cmpi .ne v21 v26
  let v28 : BitVec 32 := Scalar.remsi v15 c8_i32
  let c0_i32_16 : BitVec 32 := 0#32
  let v29 : BitVec 1 := Scalar.cmpi .ne v28 c0_i32_16
  let v30 : BitVec 1 := Scalar.andi v27 v29
  let v16 : BitVec 32 := Scalar.divsi v15 c8_i32
  let c1_i32 : BitVec 32 := 1#32
  let v31 : BitVec 32 := Scalar.subi v16 c1_i32
  let v32 : BitVec 32 := Scalar.select v30 v31 v16
  let c8_i32_31 : BitVec 32 := 8#32
  let v64 : BitVec 32 := Scalar.muli v32 c8_i32_31
  let c0_i32_22 : BitVec 32 := 0#32
  let c1_i32_24 : BitVec 32 := 1#32
  let arg20 : BitVec 32 := Scf.iv c0_i32_22 c1_i32_24 k0_t3
  let v65 : BitVec 32 := Scalar.addi v64 arg20
  let c16_i32 : BitVec 32 := 16#32
  let v66 : BitVec 32 := Scalar.muli v65 c16_i32
  let v67 : Index := Scalar.indexCast v66
  let c0_32 : Index := 0#32
  ![v67.toNat, 0]
@[reducible] def k0_t4_loop (i : grid0.Coords) (v4 : BitVec 32) : Scf.Loop 32 :=
  let c0_i32_22 : BitVec 32 := 0#32
  let c256_i32_11 : BitVec 32 := 256#32
  let c0_i32_10 : BitVec 32 := 0#32
  let arg0 : BitVec 32 := BitVec.ofNat 32 (i 0).val
  let c256_i32 : BitVec 32 := 256#32
  let v3 : BitVec 32 := Scalar.muli arg0 c256_i32
  let v13 : BitVec 32 := Scalar.subi v4 v3
  let v14 : BitVec 32 := Scalar.maxsi c0_i32_10 v13
  let v15 : BitVec 32 := Scalar.minsi c256_i32_11 v14
  let c0_i32_12 : BitVec 32 := 0#32
  let v17 : BitVec 1 := Scalar.cmpi .sgt v15 c0_i32_12
  let v18 : BitVec 32 := Scalar.extui v17
  let c0_i32_13 : BitVec 32 := 0#32
  let v19 : BitVec 1 := Scalar.cmpi .slt v15 c0_i32_13
  let v20 : BitVec 32 := Scalar.extui v19
  let v21 : BitVec 32 := Scalar.subi v18 v20
  let c8_i32 : BitVec 32 := 8#32
  let c0_i32_14 : BitVec 32 := 0#32
  let v22 : BitVec 1 := Scalar.cmpi .sgt c8_i32 c0_i32_14
  let v23 : BitVec 32 := Scalar.extui v22
  let c0_i32_15 : BitVec 32 := 0#32
  let v24 : BitVec 1 := Scalar.cmpi .slt c8_i32 c0_i32_15
  let v25 : BitVec 32 := Scalar.extui v24
  let v26 : BitVec 32 := Scalar.subi v23 v25
  let v27 : BitVec 1 := Scalar.cmpi .ne v21 v26
  let v28 : BitVec 32 := Scalar.remsi v15 c8_i32
  let c0_i32_16 : BitVec 32 := 0#32
  let v29 : BitVec 1 := Scalar.cmpi .ne v28 c0_i32_16
  let v30 : BitVec 1 := Scalar.andi v27 v29
  let v16 : BitVec 32 := Scalar.divsi v15 c8_i32
  let c1_i32 : BitVec 32 := 1#32
  let v31 : BitVec 32 := Scalar.subi v16 c1_i32
  let v32 : BitVec 32 := Scalar.select v30 v31 v16
  let c8_i32_21 : BitVec 32 := 8#32
  let v44 : BitVec 32 := Scalar.muli v32 c8_i32_21
  let v45 : BitVec 32 := Scalar.subi v15 v44
  let v46 : BitVec 32 := Scalar.subi v45 c0_i32_22
  let c1_i32_23 : BitVec 32 := 1#32
  let v48 : BitVec 32 := Scalar.divsi v46 c1_i32_23
  let v49 : BitVec 32 := Scalar.muli v48 c1_i32_23
  let v50 : BitVec 32 := Scalar.addi c0_i32_22 v49
  let v47 : BitVec 32 := Scalar.addi c0_i32_22 v46
  let c1_i32_25 : BitVec 32 := 1#32
  ⟨v50, v47, c1_i32_25⟩
def k0_off4 (i : grid0.Coords) (v4 : BitVec 32) (k0_t4 : Fin (k0_t4_loop i v4).trips) : Fin 2 → Nat :=
  let c256_i32_11 : BitVec 32 := 256#32
  let c0_i32_10 : BitVec 32 := 0#32
  let arg0 : BitVec 32 := BitVec.ofNat 32 (i 0).val
  let c256_i32 : BitVec 32 := 256#32
  let v3 : BitVec 32 := Scalar.muli arg0 c256_i32
  let v13 : BitVec 32 := Scalar.subi v4 v3
  let v14 : BitVec 32 := Scalar.maxsi c0_i32_10 v13
  let v15 : BitVec 32 := Scalar.minsi c256_i32_11 v14
  let c0_i32_12 : BitVec 32 := 0#32
  let v17 : BitVec 1 := Scalar.cmpi .sgt v15 c0_i32_12
  let v18 : BitVec 32 := Scalar.extui v17
  let c0_i32_13 : BitVec 32 := 0#32
  let v19 : BitVec 1 := Scalar.cmpi .slt v15 c0_i32_13
  let v20 : BitVec 32 := Scalar.extui v19
  let v21 : BitVec 32 := Scalar.subi v18 v20
  let c8_i32 : BitVec 32 := 8#32
  let c0_i32_14 : BitVec 32 := 0#32
  let v22 : BitVec 1 := Scalar.cmpi .sgt c8_i32 c0_i32_14
  let v23 : BitVec 32 := Scalar.extui v22
  let c0_i32_15 : BitVec 32 := 0#32
  let v24 : BitVec 1 := Scalar.cmpi .slt c8_i32 c0_i32_15
  let v25 : BitVec 32 := Scalar.extui v24
  let v26 : BitVec 32 := Scalar.subi v23 v25
  let v27 : BitVec 1 := Scalar.cmpi .ne v21 v26
  let v28 : BitVec 32 := Scalar.remsi v15 c8_i32
  let c0_i32_16 : BitVec 32 := 0#32
  let v29 : BitVec 1 := Scalar.cmpi .ne v28 c0_i32_16
  let v30 : BitVec 1 := Scalar.andi v27 v29
  let v16 : BitVec 32 := Scalar.divsi v15 c8_i32
  let c1_i32 : BitVec 32 := 1#32
  let v31 : BitVec 32 := Scalar.subi v16 c1_i32
  let v32 : BitVec 32 := Scalar.select v30 v31 v16
  let c8_i32_31 : BitVec 32 := 8#32
  let v64 : BitVec 32 := Scalar.muli v32 c8_i32_31
  let c0_i32_22 : BitVec 32 := 0#32
  let c8_i32_21 : BitVec 32 := 8#32
  let v44 : BitVec 32 := Scalar.muli v32 c8_i32_21
  let v45 : BitVec 32 := Scalar.subi v15 v44
  let v46 : BitVec 32 := Scalar.subi v45 c0_i32_22
  let c1_i32_23 : BitVec 32 := 1#32
  let v48 : BitVec 32 := Scalar.divsi v46 c1_i32_23
  let v49 : BitVec 32 := Scalar.muli v48 c1_i32_23
  let v50 : BitVec 32 := Scalar.addi c0_i32_22 v49
  let c1_i32_25 : BitVec 32 := 1#32
  let arg20 : BitVec 32 := Scf.iv v50 c1_i32_25 k0_t4
  let v65 : BitVec 32 := Scalar.addi v64 arg20
  let c16_i32 : BitVec 32 := 16#32
  let v66 : BitVec 32 := Scalar.muli v65 c16_i32
  let v67 : Index := Scalar.indexCast v66
  let c0_32 : Index := 0#32
  ![v67.toNat, 0]

def k0_chk1 (i : grid0.Coords) (v4 : BitVec 32) : Prop :=
  ((k0_t1_loop i v4).OK) ∧
  (∀ k0_t1 : Fin (k0_t1_loop i v4).trips, ∀ (r : Fin 8), ∀ a, (k0_off1 i v4 k0_t1 (BitVec.ofNat 32 r.val)) a + S16x64.size a ≤ S4096x64.size a) ∧
  ((k0_t2_loop i v4).OK) ∧
  (∀ k0_t2 : Fin (k0_t2_loop i v4).trips, ∀ (r : Fin 8), ∀ a, (k0_off2 i v4 k0_t2 (BitVec.ofNat 32 r.val)) a + S16x64.size a ≤ S4096x64.size a) ∧
  ((k0_t3_loop i v4).OK) ∧
  (∀ k0_t3 : Fin (k0_t3_loop i v4).trips, ∀ a, (k0_off3 i v4 k0_t3) a + S16x64.size a ≤ S4096x64.size a) ∧
  ((k0_t4_loop i v4).OK) ∧
  (∀ k0_t4 : Fin (k0_t4_loop i v4).trips, ∀ a, (k0_off4 i v4 k0_t4) a + S16x64.size a ≤ S4096x64.size a)
theorem k0_t1_ok : ∀ (i : grid0.Coords) (v4 : BitVec 32) (k0_hw1 : k0_chk1 i v4), (k0_t1_loop i v4).OK := fun i v4 k0_hw1 => k0_hw1.1
theorem k0_off1_inb : ∀ (i : grid0.Coords) (v4 : BitVec 32) (k0_hw1 : k0_chk1 i v4) (k0_t1 : Fin (k0_t1_loop i v4).trips), ∀ (r : Fin 8), ∀ a, (k0_off1 i v4 k0_t1 (BitVec.ofNat 32 r.val)) a + S16x64.size a ≤ S4096x64.size a := fun i v4 k0_hw1 k0_t1 r => k0_hw1.2.1 k0_t1 r
theorem k0_t2_ok : ∀ (i : grid0.Coords) (v4 : BitVec 32) (k0_hw1 : k0_chk1 i v4), (k0_t2_loop i v4).OK := fun i v4 k0_hw1 => k0_hw1.2.2.1
theorem k0_off2_inb : ∀ (i : grid0.Coords) (v4 : BitVec 32) (k0_hw1 : k0_chk1 i v4) (k0_t2 : Fin (k0_t2_loop i v4).trips), ∀ (r : Fin 8), ∀ a, (k0_off2 i v4 k0_t2 (BitVec.ofNat 32 r.val)) a + S16x64.size a ≤ S4096x64.size a := fun i v4 k0_hw1 k0_t2 r => k0_hw1.2.2.2.1 k0_t2 r
theorem k0_t3_ok : ∀ (i : grid0.Coords) (v4 : BitVec 32) (k0_hw1 : k0_chk1 i v4), (k0_t3_loop i v4).OK := fun i v4 k0_hw1 => k0_hw1.2.2.2.2.1
theorem k0_off3_inb : ∀ (i : grid0.Coords) (v4 : BitVec 32) (k0_hw1 : k0_chk1 i v4) (k0_t3 : Fin (k0_t3_loop i v4).trips), ∀ a, (k0_off3 i v4 k0_t3) a + S16x64.size a ≤ S4096x64.size a := fun i v4 k0_hw1 k0_t3 => k0_hw1.2.2.2.2.2.1 k0_t3
theorem k0_t4_ok : ∀ (i : grid0.Coords) (v4 : BitVec 32) (k0_hw1 : k0_chk1 i v4), (k0_t4_loop i v4).OK := fun i v4 k0_hw1 => k0_hw1.2.2.2.2.2.2.1
theorem k0_off4_inb : ∀ (i : grid0.Coords) (v4 : BitVec 32) (k0_hw1 : k0_chk1 i v4) (k0_t4 : Fin (k0_t4_loop i v4).trips), ∀ a, (k0_off4 i v4 k0_t4) a + S16x64.size a ≤ S4096x64.size a := fun i v4 k0_hw1 k0_t4 => k0_hw1.2.2.2.2.2.2.2 k0_t4

def k0_cond3 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_30 : BitVec 32 := 0#32
  let v63 : BitVec 1 := Scalar.cmpi .ne v62 c0_i32_30
  v63

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S16x2048x512 : Shape := ⟨3, ![16, 2048, 512]⟩
abbrev S16 : Shape := ⟨1, ![16]⟩
abbrev S512x512 : Shape := ⟨2, ![512, 512]⟩
abbrev S512 : Shape := ⟨1, ![512]⟩
abbrev S512x64 : Shape := ⟨2, ![512, 64]⟩
abbrev S64 : Shape := ⟨1, ![64]⟩
abbrev S64x64 : Shape := ⟨2, ![64, 64]⟩
abbrev S1x1x512 : Shape := ⟨3, ![1, 1, 512]⟩
abbrev S16x2048x64 : Shape := ⟨3, ![16, 2048, 64]⟩
abbrev S1x1x64 : Shape := ⟨3, ![1, 1, 64]⟩
abbrev S2048x16x64 : Shape := ⟨3, ![2048, 16, 64]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S_ : Shape := ⟨0, ![]⟩
abbrev S16x64 : Shape := ⟨2, ![16, 64]⟩
abbrev S1x16x64 : Shape := ⟨3, ![1, 16, 64]⟩
abbrev S1x64 : Shape := ⟨2, ![1, 64]⟩
abbrev S16x1 : Shape := ⟨2, ![16, 1]⟩

abbrev nBuf : Space → Nat
  | .hbm => 85
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16, .i32⟩
  | .hbm, ⟨2, _⟩ => ⟨S512x512, .f32⟩
  | .hbm, ⟨3, _⟩ => ⟨S512, .f32⟩
  | .hbm, ⟨4, _⟩ => ⟨S512x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S16x2048x512, .f32⟩
  | .hbm, ⟨13, _⟩ => ⟨S1x1x512, .f32⟩
  | .hbm, ⟨14, _⟩ => ⟨S16x2048x512, .f32⟩
  | .hbm, ⟨15, _⟩ => ⟨S16x2048x512, .f32⟩
  | .hbm, ⟨16, _⟩ => ⟨S16x2048x64, .f32⟩
  | .hbm, ⟨17, _⟩ => ⟨S1x1x64, .f32⟩
  | .hbm, ⟨18, _⟩ => ⟨S16x2048x64, .f32⟩
  | .hbm, ⟨19, _⟩ => ⟨S16x2048x64, .f32⟩
  | .hbm, ⟨20, _⟩ => ⟨S2048x16x64, .f32⟩
  | .hbm, ⟨21, _⟩ => ⟨S2048, .i32⟩
  | .hbm, ⟨22, _⟩ => ⟨S2048x1, .i32⟩
  | .hbm, ⟨23, _⟩ => ⟨S1x16, .i32⟩
  | .hbm, ⟨24, _⟩ => ⟨S2048x16, .i32⟩
  | .hbm, ⟨25, _⟩ => ⟨S2048x16, .i32⟩
  | .hbm, ⟨26, _⟩ => ⟨S2048x16, .i1⟩
  | .hbm, ⟨27, _⟩ => ⟨S_, .f32⟩
  | .hbm, ⟨28, _⟩ => ⟨S16x64, .f32⟩
  | .hbm, ⟨29, _⟩ => ⟨S_, .f32⟩
  | .hbm, ⟨30, _⟩ => ⟨S2048x16x64, .f32⟩
  | .hbm, ⟨31, _⟩ => ⟨S_, .i32⟩
  | .hbm, ⟨32, _⟩ => ⟨S2048x16x64, .f32⟩
  | .hbm, ⟨33, _⟩ => ⟨S2048x16, .i1⟩
  | .hbm, ⟨34, _⟩ => ⟨S64x64, .f32⟩
  | .hbm, ⟨35, _⟩ => ⟨S64, .f32⟩
  | .hbm, ⟨36, _⟩ => ⟨S64x64, .f32⟩
  | .hbm, ⟨37, _⟩ => ⟨S64, .f32⟩
  | .hbm, ⟨38, _⟩ => ⟨S_, .i32⟩
  | .hbm, ⟨39, _⟩ => ⟨S16x64, .f32⟩
  | .hbm, ⟨40, _⟩ => ⟨S2048x16x64, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1x16x64, .f32⟩
  | .hbm, ⟨46, _⟩ => ⟨S16x64, .f32⟩
  | .hbm, ⟨47, _⟩ => ⟨S_, .i32⟩
  | .hbm, ⟨48, _⟩ => ⟨S1x16, .i1⟩
  | .hbm, ⟨49, _⟩ => ⟨S16, .i1⟩
  | .hbm, ⟨50, _⟩ => ⟨S16x64, .f32⟩
  | .hbm, ⟨51, _⟩ => ⟨S1x64, .f32⟩
  | .hbm, ⟨52, _⟩ => ⟨S16x64, .f32⟩
  | .hbm, ⟨53, _⟩ => ⟨S16x64, .f32⟩
  | .hbm, ⟨54, _⟩ => ⟨S16x64, .f32⟩
  | .hbm, ⟨55, _⟩ => ⟨S16x64, .f32⟩
  | .hbm, ⟨56, _⟩ => ⟨S1x64, .f32⟩
  | .hbm, ⟨57, _⟩ => ⟨S16x64, .f32⟩
  | .hbm, ⟨58, _⟩ => ⟨S16x64, .f32⟩
  | .hbm, ⟨59, _⟩ => ⟨S16x64, .f32⟩
  | .hbm, ⟨60, _⟩ => ⟨S16x1, .i1⟩
  | .hbm, ⟨61, _⟩ => ⟨S16x64, .i1⟩
  | .hbm, ⟨62, _⟩ => ⟨S16x64, .f32⟩
  | .hbm, ⟨63, _⟩ => ⟨S_, .f32⟩
  | .hbm, ⟨64, _⟩ => ⟨S_, .f32⟩
  | .hbm, ⟨65, _⟩ => ⟨S16x64, .i1⟩
  | .hbm, ⟨66, _⟩ => ⟨S16x64, .f32⟩
  | .hbm, ⟨67, _⟩ => ⟨S16x64, .f32⟩
  | .hbm, ⟨68, _⟩ => ⟨S1x16x64, .f32⟩
  | .hbm, ⟨69, _⟩ => ⟨S_, .i32⟩
  | .hbm, ⟨70, _⟩ => ⟨S_, .i32⟩
  | .hbm, ⟨71, _⟩ => ⟨S2048x16x64, .f32⟩
  | .hbm, ⟨72, _⟩ => ⟨S_, .i32⟩
  | .hbm, ⟨73, _⟩ => ⟨S_, .i32⟩
  | .hbm, ⟨74, _⟩ => ⟨S16x2048x64, .f32⟩
  | .hbm, ⟨75, _⟩ => ⟨S_, .f32⟩
  | .hbm, ⟨76, _⟩ => ⟨S16x64, .f32⟩
  | .hbm, ⟨77, _⟩ => ⟨S16x1, .i32⟩
  | .hbm, ⟨78, _⟩ => ⟨S16x1, .f32⟩
  | .hbm, ⟨79, _⟩ => ⟨S16x64, .f32⟩
  | .hbm, ⟨80, _⟩ => ⟨S16x64, .f32⟩
  | .hbm, ⟨81, _⟩ => ⟨S16x64, .f32⟩
  | .hbm, ⟨82, _⟩ => ⟨S1x64, .f32⟩
  | .hbm, ⟨83, _⟩ => ⟨S16x64, .f32⟩
  | .hbm, ⟨84, _⟩ => ⟨S16x64, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_c : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev main_v17_4 : Ref sig .tc := ⟨.hbm, 36, rfl⟩
abbrev main_v17_5 : Ref sig .tc := ⟨.hbm, 37, rfl⟩
abbrev main_v17_6 : Ref sig .tc := ⟨.hbm, 38, rfl⟩
abbrev main_v17_7 : Ref sig .tc := ⟨.hbm, 39, rfl⟩
abbrev main_v17_8 : Ref sig .tc := ⟨.hbm, 40, rfl⟩
abbrev main_while0c_c_10 : Ref sig .tc := ⟨.hbm, 41, rfl⟩
abbrev main_while0c_v28 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_v0 : Ref sig .tc := ⟨.hbm, 45, rfl⟩
abbrev main_while0b_v28 : Ref sig .tc := ⟨.hbm, 46, rfl⟩
abbrev main_while0b_call1_c : Ref sig .tc := ⟨.hbm, 47, rfl⟩
abbrev main_while0b_call1_v0 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_v38 : Ref sig .tc := ⟨.hbm, 58, rfl⟩
abbrev main_while0b_v39 : Ref sig .tc := ⟨.hbm, 59, rfl⟩
abbrev main_while0b_v40 : Ref sig .tc := ⟨.hbm, 60, rfl⟩
abbrev main_while0b_call2_v0 : Ref sig .tc := ⟨.hbm, 61, rfl⟩
abbrev main_while0b_v41 : Ref sig .tc := ⟨.hbm, 62, rfl⟩
abbrev main_while0b_cst_10 : Ref sig .tc := ⟨.hbm, 63, rfl⟩
abbrev main_while0b_call3_v0 : Ref sig .tc := ⟨.hbm, 64, rfl⟩
abbrev main_while0b_call3_v1 : Ref sig .tc := ⟨.hbm, 65, rfl⟩
abbrev main_while0b_call3_v2 : Ref sig .tc := ⟨.hbm, 66, rfl⟩
abbrev main_while0b_v42 : Ref sig .tc := ⟨.hbm, 67, rfl⟩
abbrev main_while0b_call4_v0 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_v43 : Ref sig .tc := ⟨.hbm, 71, rfl⟩
abbrev main_while0b_c_11 : Ref sig .tc := ⟨.hbm, 72, rfl⟩
abbrev main_while0b_v44 : Ref sig .tc := ⟨.hbm, 73, rfl⟩
abbrev main_v18 : Ref sig .tc := ⟨.hbm, 74, rfl⟩
abbrev main_cst_1 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩

abbrev nD : Nat := 1
abbrev τ : Topo := Topo.v7x

variable {F : FTy → Type} [FloatOps F]

abbrev main_while0_count : Scf.Loop 32 := ⟨0#32, 2048#32, 1#32⟩
-- ==== Proof.Steps.lean ====
/- The step counts of one grid point. The body reads the longest length from a word, clips it to the chunk's 256
   steps, and runs two pairs of counted loops over them: whole groups of eight steps, then the rest one at a time
   (the second loop of each pair has no trips). Here: the clipped count is at most 256 whatever the word, and from
   such a count the loops' bounds and the rows they read. -/
module

public import proofs.«01_k».proof.Proof.Gen.KernelIdeal

@[expose] public section

set_option maxRecDepth 16384

namespace Cert.Steps

open Idealize.ShloMosaic

/-- The steps of chunk `a` that lie below the length `v`, as the body clips them. -/
def clip (a v : BitVec 32) : BitVec 32 :=
  Scalar.minsi 256#32 (Scalar.maxsi 0#32 (Scalar.subi v (Scalar.muli a 256#32)))

/-- The body's floor division by eight. -/
def eighth (w : BitVec 32) : BitVec 32 :=
  Scalar.select
    (Scalar.andi
      (Scalar.cmpi .ne (Scalar.subi (Scalar.extui (Scalar.cmpi .sgt w 0#32)) (Scalar.extui (Scalar.cmpi .slt w 0#32)) : BitVec 32)
        (Scalar.subi (Scalar.extui (Scalar.cmpi .sgt 8#32 0#32)) (Scalar.extui (Scalar.cmpi .slt 8#32 0#32))))
      (Scalar.cmpi .ne (Scalar.remsi w 8#32) 0#32))
    (Scalar.subi (Scalar.divsi w 8#32) 1#32) (Scalar.divsi w 8#32)

/-- What is left of a count after its groups of eight. -/
def rest (w : BitVec 32) : BitVec 32 :=
  Scalar.subi (Scalar.subi w (Scalar.muli (eighth w) 8#32)) 0#32

/-- The loop over whole groups of eight. -/
def groups (w : BitVec 32) : Scf.Loop 32 :=
  ⟨0#32, Scalar.addi 0#32 (Scalar.muli (Scalar.divsi (Scalar.subi (eighth w) 0#32) 1#32) 1#32), 1#32⟩
/-- Its leftover loop. -/
def groupsLeft (w : BitVec 32) : Scf.Loop 32 :=
  ⟨Scalar.addi 0#32 (Scalar.muli (Scalar.divsi (Scalar.subi (eighth w) 0#32) 1#32) 1#32),
    Scalar.addi 0#32 (Scalar.subi (eighth w) 0#32), 1#32⟩
/-- The loop over the rest. -/
def singles (w : BitVec 32) : Scf.Loop 32 :=
  ⟨0#32, Scalar.addi 0#32 (Scalar.muli (Scalar.divsi (rest w) 1#32) 1#32), 1#32⟩
/-- Its leftover loop. -/
def singlesLeft (w : BitVec 32) : Scf.Loop 32 :=
  ⟨Scalar.addi 0#32 (Scalar.muli (Scalar.divsi (rest w) 1#32) 1#32), Scalar.addi 0#32 (rest w), 1#32⟩

/-- The clipped count is between 0 and 256. -/
theorem clip_le (a v : BitVec 32) : (clip a v).toNat ≤ 256 := by
  unfold clip Scalar.minsi Scalar.maxsi
  generalize Scalar.subi v (Scalar.muli a 256#32) = z
  simp only [IntOp.minsi, IntOp.maxsi]
  split <;> split <;> simp_all [BitVec.slt, BitVec.sle, BitVec.toInt] <;> omega

/-- A fact about every count up to 256, from its 257 instances. -/
theorem of_all {P : BitVec 32 → Prop} (h : ∀ n : Fin 257, P (BitVec.ofNat 32 n.val)) (w : BitVec 32)
    (hw : w.toNat ≤ 256) : P w := by
  have := h ⟨w.toNat, by omega⟩
  simpa using this

theorem eighth_eq (w : BitVec 32) (hw : w.toNat ≤ 256) : eighth w = BitVec.ofNat 32 (w.toNat / 8) :=
  of_all (P := fun w => eighth w = BitVec.ofNat 32 (w.toNat / 8)) (by decide +kernel) w hw

theorem groups_ok (w : BitVec 32) (hw : w.toNat ≤ 256) : (groups w).OK ∧ (groups w).trips = w.toNat / 8 :=
  of_all (P := fun w => (groups w).OK ∧ (groups w).trips = w.toNat / 8) (by decide +kernel) w hw
theorem groupsLeft_ok (w : BitVec 32) (hw : w.toNat ≤ 256) : (groupsLeft w).OK ∧ (groupsLeft w).trips = 0 :=
  of_all (P := fun w => (groupsLeft w).OK ∧ (groupsLeft w).trips = 0) (by decide +kernel) w hw
theorem singles_ok (w : BitVec 32) (hw : w.toNat ≤ 256) : (singles w).OK ∧ (singles w).trips = w.toNat % 8 :=
  of_all (P := fun w => (singles w).OK ∧ (singles w).trips = w.toNat % 8) (by decide +kernel) w hw
theorem singlesLeft_ok (w : BitVec 32) (hw : w.toNat ≤ 256) : (singlesLeft w).OK ∧ (singlesLeft w).trips = 0 :=
  of_all (P := fun w => (singlesLeft w).OK ∧ (singlesLeft w).trips = 0) (by decide +kernel) w hw

/-- The first row of the sixteen the `r`-th step of group `k` reads, as a word. -/
def rowG (k : ℕ) (r : BitVec 32) : BitVec 32 :=
  Scalar.indexCast (Scalar.muli (Scalar.addi (Scalar.muli (Scf.iv 0#32 1#32 k) 8#32) r) 16#32)
/-- The first row of the sixteen the `k`-th single step reads, as a word. -/
def rowS (w : BitVec 32) (k : ℕ) : BitVec 32 :=
  Scalar.indexCast (Scalar.muli (Scalar.addi (Scalar.muli (eighth w) 8#32) (Scf.iv 0#32 1#32 k)) 16#32)

theorem rowG_eq (k : ℕ) (hk : k < 32) (r : ℕ) (hr : r < 8) : (rowG k (BitVec.ofNat 32 r)).toNat = (k * 8 + r) * 16 := by
  have : ∀ (k : Fin 32) (r : Fin 8), (rowG k.val (BitVec.ofNat 32 r.val)).toNat = (k.val * 8 + r.val) * 16 := by decide +kernel
  exact this ⟨k, hk⟩ ⟨r, hr⟩
theorem rowS_eq (w : BitVec 32) (hw : w.toNat ≤ 256) (k : ℕ) (hk : k < 8) :
    (rowS w k).toNat = (w.toNat / 8 * 8 + k) * 16 := by
  have := of_all (P := fun w => ∀ k : Fin 8, (rowS w k.val).toNat = (w.toNat / 8 * 8 + k.val) * 16) (by decide +kernel) w hw
  exact this ⟨k, hk⟩

/-- A read of sixteen rows of the 4096-row scratch fits when its first row leaves room for them. -/
theorem rows_fit (n : ℕ) (h : n + 16 ≤ 4096) (a : Fin 2) : (![n, 0] : Fin 2 → ℕ) a + (![16, 64] : Fin 2 → ℕ) a ≤ (![4096, 64] : Fin 2 → ℕ) a := by
  fin_cases a <;> simp <;> omega

/-- Everything the body assumes of a clipped count: its four loops are well formed and every row they read is there. -/
theorem assumed (w : BitVec 32) (hw : w.toNat ≤ 256) :
    (groups w).OK
    ∧ (∀ k : Fin (groups w).trips, ∀ (r : Fin 8), ∀ a, (![(rowG k (BitVec.ofNat 32 r.val)).toNat, 0] : Fin 2 → ℕ) a + (![16, 64] : Fin 2 → ℕ) a ≤ (![4096, 64] : Fin 2 → ℕ) a)
    ∧ (groupsLeft w).OK
    ∧ (∀ _k : Fin (groupsLeft w).trips, False)
    ∧ (singles w).OK
    ∧ (∀ k : Fin (singles w).trips, ∀ a, (![(rowS w k).toNat, 0] : Fin 2 → ℕ) a + (![16, 64] : Fin 2 → ℕ) a ≤ (![4096, 64] : Fin 2 → ℕ) a)
    ∧ (singlesLeft w).OK
    ∧ (∀ _k : Fin (singlesLeft w).trips, False) := by
  refine ⟨(groups_ok w hw).1, fun k r a => ?_, (groupsLeft_ok w hw).1, fun k => ?_, (singles_ok w hw).1, fun k a => ?_,
    (singlesLeft_ok w hw).1, fun k => ?_⟩
  · have hk := k.isLt.trans_eq (groups_ok w hw).2
    have hr := r.isLt
    exact rows_fit _ (by rw [rowG_eq _ (by omega) _ hr]; omega) a
  · have hk := k.isLt.trans_eq (groupsLeft_ok w hw).2
    omega
  · have hk := k.isLt.trans_eq (singles_ok w hw).2
    exact rows_fit _ (by rw [rowS_eq w hw _ (by omega)]; omega) a
  · have hk := k.isLt.trans_eq (singlesLeft_ok w hw).2
    omega

/-- The body's assumed facts hold of every word. -/
theorem chk_ideal (i : Cert.KernelIdeal.grid0.Coords) (v : BitVec 32) : Cert.KernelIdeal.k0_chk1 i v := by
  have h := assumed (clip (BitVec.ofNat 32 (i 0).val) v) (clip_le _ _)
  exact ⟨h.1, h.2.1, h.2.2.1, fun k => (h.2.2.2.1 k).elim, h.2.2.2.2.1, h.2.2.2.2.2.1, h.2.2.2.2.2.2.1,
    fun k => (h.2.2.2.2.2.2.2 k).elim⟩

/-- At the first chunk the body's test "the chunk starts below the longest length" holds of every positive word. -/
theorem starts_below (v : BitVec 32) (hv : 1 ≤ v.toInt) :
    Scalar.cmpi .ne (Scalar.extui (Scalar.cmpi .slt (Scalar.muli (BitVec.ofNat 32 0) 256#32) v) : BitVec 32) 0#32 = 1#1 := by
  have e : Scalar.muli (BitVec.ofNat 32 0) 256#32 = 0#32 := by decide
  have h : BitVec.slt 0#32 v = true := by simp [BitVec.slt]; omega
  rw [e]
  simp [Scalar.cmpi, IntOp.cmpi, Scalar.extui, h]

end Cert.Steps
-- ==== Proof.Bounds.lean ====
/- What the first precondition says of the first length, and that it gives what the kernel's frame assumes. -/
module

public import proofs.«01_k».proof.Proof.Steps
public import proofs.«01_k».proof.Proof.Gen.Pre_first_positive
public import proofs.«01_k».proof.Proof.Gen.KernelIdeal.Frame.Runs
public import Idealize.ShloMosaic.Lib.StableHlo.RunRead
public import Idealize.ShloMosaic.Lib.ValueIdx

@[expose] public section

set_option maxRecDepth 16384

namespace Cert.Bounds

open Idealize.ShloMosaic Idealize.ShloMosaic.TcCoe Idealize.ShloMosaic.ValueIdx

/-- A slice of one element at the front of sixteen is the first element, wherever it is read. -/
theorem slice_first {α : Type} (x : (⟨1, ![16]⟩ : Shape).Idx → α) (h) (i : (⟨1, ![1]⟩ : Shape).Idx) :
    extractStridedSlice ⟨1, ![1]⟩ ![0] x h i = x (ix1 0) := by
  unfold extractStridedSlice
  congr 1
  rw [eq_ix1 (fun a => _)]
  congr 1
  apply Fin.ext
  have hi : (i 0).val < 1 := (i 0).isLt
  show 0 + (i 0).val = 0
  omega

theorem ofBool_eq_one (p : Bool) : (BitVec.ofBool p = 1#1) ↔ p = true := by cases p <;> decide

/-- The predicate read off: the first length is at least one. -/
theorem first_of {F : FTy → Type} [FloatOps F] {a0 a1 a2 a3 a4 a5 a6 a7 a8 a9 a10 a11}
    (h : Cert.Pre_first_positive.fn (F := F) a0 a1 a2 a3 a4 a5 a6 a7 a8 a9 a10 a11 = fun _ => 1#1) :
    1 ≤ (a1 (ix1 0)).toInt := by
  have e := congrFun h (ix1 0)
  simp only [Pre_first_positive.fn, cmpi, broadcastInDim, slice_first, constantI, IntOp.cmpi, ofBool_eq_one, BitVec.sle,
    decide_eq_true_eq] at e
  simpa using e

section Ideal
open Cert.KernelIdeal Cert.KernelIdeal.Gen
variable {F : FTy → Type} [FloatOps F] (m : (ℓ : Loc nD τ sig) → Buf (Elt F) ℓ)

/-- The idealization's word operand is the first length. -/
theorem word_ideal (c : Dev nD) (t : Fin cfg0.N) (i) :
    iblk m c 1 t i = m ((c : Thread nD τ).loc main_arg1) (ix1 0) := by
  have e : V m c main_v1 = extractStridedSlice S1 ![0] (m ((c : Thread nD τ).loc main_arg1)) slices_S16_S1_0 := by
    show StableHlo.after hostOps0 _ (Proc.devRef .tc main_v1) = _
    after_reads_simp
  unfold iblk
  rw [View.read_apply, cast_eq]
  show V m c main_v1 _ = _
  rw [e]
  exact slice_first _ _ _

/-- What the idealization's frame assumes follows from the first length's being positive. -/
theorem hyps_ideal (h : ∀ c : Dev nD, 1 ≤ (m ((c : Thread nD τ).loc main_arg1) (ix1 0)).toInt) : Hyps m := by
  refine Hyps.of (fun c t => Steps.chk_ideal _ _) fun c t h0 h1 _ => absurd ?_ h1
  have ht : ∀ t : Fin cfg0.N, t.val % 8 = 0 → (grid0.coords t 0).val = 0 := by decide
  simp only [View.readAt_apply, Memref.IsWhole.read_unread]
  rw [word_ideal]
  show Scalar.cmpi .ne (Scalar.extui (Scalar.cmpi .slt (Scalar.muli (BitVec.ofNat 32 (grid0.coords t 0).val) 256#32) _) : BitVec 32) 0#32 = 1#1
  rw [ht t ((hcond0_0 t).1 h0)]
  exact Steps.starts_below _ (h c)

end Ideal

end Cert.Bounds
-- ==== Proof.Finite.lean ====
/- What the second precondition says: the first length is positive and none is above it, `x` finite at every step below its row's length, and the
   three weight matrices in front of the recurrence finite. -/
module

public import proofs.«01_k».proof.Proof.Bounds
public import proofs.«01_k».proof.Proof.Gen.Pre_steps_finite

@[expose] public section

set_option maxRecDepth 16384

namespace Cert.Bounds

open Idealize.ShloMosaic Idealize.ShloMosaic.TcCoe Idealize.ShloMosaic.ValueIdx

/-- "The absolute value is less than infinity", as the predicate tests it. -/
def Fin1 (a : EReal) : Prop := Ideal.cmp .olt (max a (-a)) (Ideal.ofBits .f32 0x7F800000#32) = 1#1

/-- An extended real that passes the test is a real number. -/
theorem real_of_fin1 {a : EReal} (h : Fin1 a) : ∃ r : ℝ, a = r := by
  have e : Ideal.ofBits .f32 0x7F800000#32 = ⊤ := by simp [Ideal.ofBits, Ideal.ieee]
  unfold Fin1 at h
  rw [e] at h
  induction a using EReal.rec with
  | bot => simp [Ideal.cmp] at h
  | coe r => exact ⟨r, rfl⟩
  | top => simp [Ideal.cmp] at h

theorem ori_ofBool (p q : Bool) : IntOp.ori (BitVec.ofBool p) (BitVec.ofBool q) = BitVec.ofBool (p || q) := by
  cases p <;> cases q <;> decide

/-- What the predicate gives. -/
structure Given (x : FVec Ideal ⟨3, ![16, 2048, 512]⟩ .f32) (len : IVec ⟨1, ![16]⟩ 32) (wf : FVec Ideal ⟨2, ![512, 512]⟩ .f32)
    (wr : FVec Ideal ⟨2, ![512, 64]⟩ .f32) (wi : FVec Ideal ⟨2, ![64, 64]⟩ .f32) : Prop where
  pos : 1 ≤ (len (ix1 0)).toInt
  le : ∀ b, (len b).toInt ≤ (len (ix1 0)).toInt
  x : ∀ (b : Fin 16) (t : Fin 2048) (d : Fin 512), (t.val : ℤ) < (len (ix1 b)).toInt → ∃ r : ℝ, x (ix3 b t d) = r
  wf : ∀ i, ∃ r : ℝ, wf i = r
  wr : ∀ i, ∃ r : ℝ, wr i = r
  wi : ∀ i, ∃ r : ℝ, wi i = r

theorem given_of {a0 : FVec Ideal ⟨3, ![16, 2048, 512]⟩ .f32} {a1 : IVec ⟨1, ![16]⟩ 32} {a2 : FVec Ideal ⟨2, ![512, 512]⟩ .f32}
    {a3} {a4 : FVec Ideal ⟨2, ![512, 64]⟩ .f32} {a5} {a6 : FVec Ideal ⟨2, ![64, 64]⟩ .f32} {a7 a8 a9 a10 a11}
    (h : (Cert.Pre_steps_finite.fn (F := Ideal) a0 a1 a2 a3 a4 a5 a6 a7 a8 a9 a10 a11).1 = (fun _ => 1#1)
      ∧ (Cert.Pre_steps_finite.fn (F := Ideal) a0 a1 a2 a3 a4 a5 a6 a7 a8 a9 a10 a11).2.1 = (fun _ => 1#1)
      ∧ (Cert.Pre_steps_finite.fn (F := Ideal) a0 a1 a2 a3 a4 a5 a6 a7 a8 a9 a10 a11).2.2.1 = (fun _ => 1#1)
      ∧ (Cert.Pre_steps_finite.fn (F := Ideal) a0 a1 a2 a3 a4 a5 a6 a7 a8 a9 a10 a11).2.2.2.1 = (fun _ => 1#1)
      ∧ (Cert.Pre_steps_finite.fn (F := Ideal) a0 a1 a2 a3 a4 a5 a6 a7 a8 a9 a10 a11).2.2.2.2.1 = (fun _ => 1#1)
      ∧ (Cert.Pre_steps_finite.fn (F := Ideal) a0 a1 a2 a3 a4 a5 a6 a7 a8 a9 a10 a11).2.2.2.2.2 = (fun _ => 1#1)) :
    Given a0 a1 a2 a4 a6 := by
  have p : 1 ≤ (a1 (ix1 0)).toInt := by
    have e := congrFun h.1 (ix1 0)
    simp only [Pre_steps_finite.fn, Pre_steps_finite.fn_part1, cmpi, broadcastInDim, slice_first, constantI, IntOp.cmpi,
      ofBool_eq_one, BitVec.sle, decide_eq_true_eq] at e
    simpa using e
  have L : ∀ b, (a1 b).toInt ≤ (a1 (ix1 0)).toInt := fun b => by
    have e := congrFun h.2.1 b
    simp only [Pre_steps_finite.fn, Pre_steps_finite.fn_part1, cmpi, broadcastInDim, shapeCast, slice_first, constantI, IntOp.cmpi,
      ofBool_eq_one, BitVec.sle, decide_eq_true_eq] at e
    exact e
  refine ⟨p, L, fun b t d ht => ?_, fun i => real_of_fin1 (congrFun h.2.2.2.1 i),
    fun i => real_of_fin1 (congrFun h.2.2.2.2.1 i), fun i => real_of_fin1 (congrFun h.2.2.2.2.2 i)⟩
  have e : IntOp.ori (IntOp.cmpi .sge (BitVec.ofNat 32 t.val) (a1 (ix1 b)))
      (Ideal.cmp .olt (max (a0 (ix3 b t d)) (-a0 (ix3 b t d))) (Ideal.ofBits .f32 0x7F800000#32)) = 1#1 := by
    have ei : broadcastInDim ⟨3, ![16, 2048, 512]⟩ ![0] Pre_steps_finite.Gen.bcast_S16_S16x2048x512_0 a1 (ix3 b t d) = a1 (ix1 b) := by
      unfold broadcastInDim
      congr 1
      funext a
      match a with
      | ⟨0, _⟩ => rfl
    rw [← ei]
    exact congrFun h.2.2.1 (ix3 b t d)
  have hs : BitVec.sle (a1 (ix1 b)) (BitVec.ofNat 32 t.val) = false := by
    have := t.isLt
    simp [BitVec.sle, BitVec.toInt] at ht ⊢
    omega
  have z : IntOp.cmpi .sge (BitVec.ofNat 32 t.val) (a1 (ix1 b)) = 0#1 := by
    simp [IntOp.cmpi, hs]
  rw [z] at e
  refine real_of_fin1 ?_
  unfold Fin1
  simpa [IntOp.ori] using e

end Cert.Bounds
-- ==== Proof.Outs.lean ====
/- What each case of the kernel's body leaves in its output and in the scratch it carries: the pieces its run finds, read
   back. Adapted from the generated frame certificate, with one set of variables per case. -/
module

public import proofs.«01_k».proof.Proof.Gen.KernelIdeal.Frame.RunF
public import Idealize.ShloMosaic.Lib.Claim

@[expose] public section

set_option maxRecDepth 16384

noncomputable section

namespace Cert.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section CaseA

variable (c : Dev nD) (i : grid0.Coords) (arg1 : Memref sig .tc .vmem S16x256x512 .f32) (harg1 : arg1.IsWhole) (arg2 : Memref sig .tc .smem S1 .i32)
  (harg2 : arg2.IsWhole) (arg3 : Memref sig .tc .vmem S16x1 .i32) (harg3 : arg3.IsWhole) (arg4 : Memref sig .tc .vmem S512x512 .f32)
  (harg4 : arg4.IsWhole) (arg5 : Memref sig .tc .vmem S512x64 .f32) (harg5 : arg5.IsWhole) (arg6 : Memref sig .tc .vmem S64x64 .f32)
  (harg6 : arg6.IsWhole) (arg7 : Memref sig .tc .vmem S64x64 .f32) (harg7 : arg7.IsWhole) (arg8 : Memref sig .tc .vmem S1x512 .f32)
  (harg8 : arg8.IsWhole) (arg9 : Memref sig .tc .vmem S1x64 .f32) (harg9 : arg9.IsWhole) (arg10 : Memref sig .tc .vmem S1x64 .f32)
  (harg10 : arg10.IsWhole) (arg11 : Memref sig .tc .vmem S1x64 .f32) (harg11 : arg11.IsWhole) (arg12 : Memref sig .tc .vmem S64x64 .f32)
  (harg12 : arg12.IsWhole) (arg13 : Memref sig .tc .vmem S1x64 .f32) (harg13 : arg13.IsWhole) (arg14 : Memref sig .tc .vmem S16x64 .f32)
  (harg14 : arg14.IsWhole) (arg15 : Memref sig .tc .vmem S512x64 .f32) (harg15 : arg15.IsWhole) (arg16 : Memref sig .tc .vmem S1x64 .f32)
  (harg16 : arg16.IsWhole) (arg17 : Memref sig .tc .vmem S16x64 .f32) (harg17 : arg17.IsWhole) (arg18 : Memref sig .tc .vmem S16x64 .f32)
  (harg18 : arg18.IsWhole) (arg19 : Memref sig .tc .vmem S4096x64 .f32) (harg19 : arg19.IsWhole) (hc0 : cond0_0 i) (hc2 : ¬cond0_2 i)
  (x0 : Vec F S16x256x512 .f32) (x1 : Vec F S1 .i32) (x2 : Vec F S16x1 .i32) (x3 : Vec F S512x512 .f32) (x4 : Vec F S512x64 .f32)
  (x5 : Vec F S64x64 .f32) (x6 : Vec F S64x64 .f32) (x7 : Vec F S1x512 .f32) (x8 : Vec F S1x64 .f32) (x9 : Vec F S1x64 .f32) (x10 : Vec F S1x64 .f32)
  (x11 : Vec F S64x64 .f32) (x12 : Vec F S1x64 .f32)
  (hc1 : cond0_1 i (arg2.view.readAt (Elt F) (Rect.unit (s := S1) ![0] S1.size inb_S1_S1_0).toLoadRect (harg2.unread x1) (Shape.Idx.first (numel1_S1.symm ▸ Nat.one_pos))))
  (k0_hw1 : k0_chk1 i (arg2.view.readAt (Elt F) (Rect.unit (s := S1) ![0] S1.size inb_S1_S1_0).toLoadRect (harg2.unread x1) (Shape.Idx.first (numel1_S1.symm ▸ Nat.one_pos))))

/-- Case A stores nothing into output 13 (the window is idle at its points and not written back there):
    no pieces — a placeholder (junk read back) that nothing consults, since at these points the window is neither
    written back nor read at the next point (Lib/Pipeline.lean "Idle points"). -/
def out0_A_13 : Vec F S16x64 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).1)

/-- Case A's pieces for scratch `arg15`, which the kernel carries between points, cover it: 1 piece of `S512x64` tiling it (Lib/Ring.lean `Piece.tiledL`). -/
theorem scover0_A_0 (y : S512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.1 S512x64.size (by sl_kernel_rfl) y

/-- What case A leaves in scratch `arg15`: its pieces read back over junk. -/
def sout0_A_0 : Vec F S512x64 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.1)

/-- Case A's pieces for scratch `arg16`, which the kernel carries between points, cover it: 1 piece of `S1x64` tiling it (Lib/Ring.lean `Piece.tiledL`). -/
theorem scover0_A_1 (y : S1x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.1 S1x64.size (by sl_kernel_rfl) y

/-- What case A leaves in scratch `arg16`: its pieces read back over junk. -/
def sout0_A_1 : Vec F S1x64 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.1)

/-- Case A's pieces for scratch `arg17`, which the kernel carries between points, cover it: 2 pieces of `S16x64` tiling it (Lib/Ring.lean `Piece.tiledL`). -/
theorem scover0_A_2 (y : S16x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.1 S16x64.size (by sl_kernel_rfl) y

/-- What case A leaves in scratch `arg17`: its pieces read back over junk. -/
def sout0_A_2 : Vec F S16x64 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.1)

/-- Case A's pieces for scratch `arg18`, which the kernel carries between points, cover it: 2 pieces of `S16x64` tiling it (Lib/Ring.lean `Piece.tiledL`). -/
theorem scover0_A_3 (y : S16x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.2.1 S16x64.size (by sl_kernel_rfl) y

/-- What case A leaves in scratch `arg18`: its pieces read back over junk. -/
def sout0_A_3 : Vec F S16x64 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.2.1)

/-- Case A's pieces for scratch `arg19`, which the kernel carries between points, cover it: 1 piece of `S4096x64` tiling it (Lib/Ring.lean `Piece.tiledL`). -/
theorem scover0_A_4 (y : S4096x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.2.2.1 S4096x64.size (by sl_kernel_rfl) y

/-- What case A leaves in scratch `arg19`: its pieces read back over junk. -/
def sout0_A_4 : Vec F S4096x64 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.2.2.1)

end CaseA

section CaseB

variable (c : Dev nD) (i : grid0.Coords) (arg1 : Memref sig .tc .vmem S16x256x512 .f32) (harg1 : arg1.IsWhole) (arg2 : Memref sig .tc .smem S1 .i32)
  (harg2 : arg2.IsWhole) (arg3 : Memref sig .tc .vmem S16x1 .i32) (harg3 : arg3.IsWhole) (arg4 : Memref sig .tc .vmem S512x512 .f32)
  (harg4 : arg4.IsWhole) (arg5 : Memref sig .tc .vmem S512x64 .f32) (harg5 : arg5.IsWhole) (arg6 : Memref sig .tc .vmem S64x64 .f32)
  (harg6 : arg6.IsWhole) (arg7 : Memref sig .tc .vmem S64x64 .f32) (harg7 : arg7.IsWhole) (arg8 : Memref sig .tc .vmem S1x512 .f32)
  (harg8 : arg8.IsWhole) (arg9 : Memref sig .tc .vmem S1x64 .f32) (harg9 : arg9.IsWhole) (arg10 : Memref sig .tc .vmem S1x64 .f32)
  (harg10 : arg10.IsWhole) (arg11 : Memref sig .tc .vmem S1x64 .f32) (harg11 : arg11.IsWhole) (arg12 : Memref sig .tc .vmem S64x64 .f32)
  (harg12 : arg12.IsWhole) (arg13 : Memref sig .tc .vmem S1x64 .f32) (harg13 : arg13.IsWhole) (arg14 : Memref sig .tc .vmem S16x64 .f32)
  (harg14 : arg14.IsWhole) (arg15 : Memref sig .tc .vmem S512x64 .f32) (harg15 : arg15.IsWhole) (arg16 : Memref sig .tc .vmem S1x64 .f32)
  (harg16 : arg16.IsWhole) (arg17 : Memref sig .tc .vmem S16x64 .f32) (harg17 : arg17.IsWhole) (arg18 : Memref sig .tc .vmem S16x64 .f32)
  (harg18 : arg18.IsWhole) (arg19 : Memref sig .tc .vmem S4096x64 .f32) (harg19 : arg19.IsWhole) (hc0 : cond0_0 i) (hc2 : ¬cond0_2 i)
  (x0 : Vec F S16x256x512 .f32) (x1 : Vec F S1 .i32) (x2 : Vec F S16x1 .i32) (x3 : Vec F S512x512 .f32) (x4 : Vec F S512x64 .f32)
  (x5 : Vec F S64x64 .f32) (x6 : Vec F S64x64 .f32) (x7 : Vec F S1x512 .f32) (x8 : Vec F S1x64 .f32) (x9 : Vec F S1x64 .f32) (x10 : Vec F S1x64 .f32)
  (x11 : Vec F S64x64 .f32) (x12 : Vec F S1x64 .f32) (xs4 : Vec F S4096x64 .f32)
  (hc1 : ¬cond0_1 i (arg2.view.readAt (Elt F) (Rect.unit (s := S1) ![0] S1.size inb_S1_S1_0).toLoadRect (harg2.unread x1) (Shape.Idx.first (numel1_S1.symm ▸ Nat.one_pos))))
  (k0_hw1 : k0_chk1 i (arg2.view.readAt (Elt F) (Rect.unit (s := S1) ![0] S1.size inb_S1_S1_0).toLoadRect (harg2.unread x1) (Shape.Idx.first (numel1_S1.symm ▸ Nat.one_pos))))

/-- Case B stores nothing into output 13 (the window is idle at its points and not written back there):
    no pieces — a placeholder (junk read back) that nothing consults, since at these points the window is neither
    written back nor read at the next point (Lib/Pipeline.lean "Idle points"). -/
def out0_B_13 : Vec F S16x64 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).1)

/-- Case B's pieces for scratch `arg15`, which the kernel carries between points, cover it: 1 piece of `S512x64` tiling it (Lib/Ring.lean `Piece.tiledL`). -/
theorem scover0_B_0 (y : S512x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.1 S512x64.size (by sl_kernel_rfl) y

/-- What case B leaves in scratch `arg15`: its pieces read back over junk. -/
def sout0_B_0 : Vec F S512x64 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.1)

/-- Case B's pieces for scratch `arg16`, which the kernel carries between points, cover it: 1 piece of `S1x64` tiling it (Lib/Ring.lean `Piece.tiledL`). -/
theorem scover0_B_1 (y : S1x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.1 S1x64.size (by sl_kernel_rfl) y

/-- What case B leaves in scratch `arg16`: its pieces read back over junk. -/
def sout0_B_1 : Vec F S1x64 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.1)

/-- Case B's pieces for scratch `arg17`, which the kernel carries between points, cover it: 2 pieces of `S16x64` tiling it (Lib/Ring.lean `Piece.tiledL`). -/
theorem scover0_B_2 (y : S16x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.2.1 S16x64.size (by sl_kernel_rfl) y

/-- What case B leaves in scratch `arg17`: its pieces read back over junk. -/
def sout0_B_2 : Vec F S16x64 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.2.1)

/-- Case B's pieces for scratch `arg18`, which the kernel carries between points, cover it: 2 pieces of `S16x64` tiling it (Lib/Ring.lean `Piece.tiledL`). -/
theorem scover0_B_3 (y : S16x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.2.2.1 S16x64.size (by sl_kernel_rfl) y

/-- What case B leaves in scratch `arg18`: its pieces read back over junk. -/
def sout0_B_3 : Vec F S16x64 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs4 hc1 k0_hw1).2.2.2.2.1)

/-- Case B stores nothing into scratch `arg19`: it holds what the point before left. -/
def sout0_B_4 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : cond0_0 i) (hc2 : ¬cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs4 : Vec F S4096x64 .f32) (hc1 : ¬cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S4096x64 .f32 := xs4

end CaseB

section CaseC

variable (c : Dev nD) (i : grid0.Coords) (arg1 : Memref sig .tc .vmem S16x256x512 .f32) (harg1 : arg1.IsWhole) (arg2 : Memref sig .tc .smem S1 .i32)
  (harg2 : arg2.IsWhole) (arg3 : Memref sig .tc .vmem S16x1 .i32) (harg3 : arg3.IsWhole) (arg4 : Memref sig .tc .vmem S512x512 .f32)
  (harg4 : arg4.IsWhole) (arg5 : Memref sig .tc .vmem S512x64 .f32) (harg5 : arg5.IsWhole) (arg6 : Memref sig .tc .vmem S64x64 .f32)
  (harg6 : arg6.IsWhole) (arg7 : Memref sig .tc .vmem S64x64 .f32) (harg7 : arg7.IsWhole) (arg8 : Memref sig .tc .vmem S1x512 .f32)
  (harg8 : arg8.IsWhole) (arg9 : Memref sig .tc .vmem S1x64 .f32) (harg9 : arg9.IsWhole) (arg10 : Memref sig .tc .vmem S1x64 .f32)
  (harg10 : arg10.IsWhole) (arg11 : Memref sig .tc .vmem S1x64 .f32) (harg11 : arg11.IsWhole) (arg12 : Memref sig .tc .vmem S64x64 .f32)
  (harg12 : arg12.IsWhole) (arg13 : Memref sig .tc .vmem S1x64 .f32) (harg13 : arg13.IsWhole) (arg14 : Memref sig .tc .vmem S16x64 .f32)
  (harg14 : arg14.IsWhole) (arg15 : Memref sig .tc .vmem S512x64 .f32) (harg15 : arg15.IsWhole) (arg16 : Memref sig .tc .vmem S1x64 .f32)
  (harg16 : arg16.IsWhole) (arg17 : Memref sig .tc .vmem S16x64 .f32) (harg17 : arg17.IsWhole) (arg18 : Memref sig .tc .vmem S16x64 .f32)
  (harg18 : arg18.IsWhole) (arg19 : Memref sig .tc .vmem S4096x64 .f32) (harg19 : arg19.IsWhole) (hc0 : ¬cond0_0 i) (hc2 : ¬cond0_2 i)
  (x0 : Vec F S16x256x512 .f32) (x1 : Vec F S1 .i32) (x2 : Vec F S16x1 .i32) (x3 : Vec F S512x512 .f32) (x4 : Vec F S512x64 .f32)
  (x5 : Vec F S64x64 .f32) (x6 : Vec F S64x64 .f32) (x7 : Vec F S1x512 .f32) (x8 : Vec F S1x64 .f32) (x9 : Vec F S1x64 .f32) (x10 : Vec F S1x64 .f32)
  (x11 : Vec F S64x64 .f32) (x12 : Vec F S1x64 .f32) (xs0 : Vec F S512x64 .f32) (xs1 : Vec F S1x64 .f32) (xs2 : Vec F S16x64 .f32)
  (xs3 : Vec F S16x64 .f32)
  (hc1 : cond0_1 i (arg2.view.readAt (Elt F) (Rect.unit (s := S1) ![0] S1.size inb_S1_S1_0).toLoadRect (harg2.unread x1) (Shape.Idx.first (numel1_S1.symm ▸ Nat.one_pos))))
  (k0_hw1 : k0_chk1 i (arg2.view.readAt (Elt F) (Rect.unit (s := S1) ![0] S1.size inb_S1_S1_0).toLoadRect (harg2.unread x1) (Shape.Idx.first (numel1_S1.symm ▸ Nat.one_pos))))

/-- Case C stores nothing into output 13 (the window is idle at its points and not written back there):
    no pieces — a placeholder (junk read back) that nothing consults, since at these points the window is neither
    written back nor read at the next point (Lib/Pipeline.lean "Idle points"). -/
def out0_C_13 : Vec F S16x64 .f32 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).1)

/-- Case C stores nothing into scratch `arg15`: it holds what the point before left. -/
def sout0_C_0 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : ¬cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (hc1 : cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S512x64 .f32 := xs0

/-- Case C stores nothing into scratch `arg16`: it holds what the point before left. -/
def sout0_C_1 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : ¬cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (hc1 : cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S1x64 .f32 := xs1

/-- Case C's pieces for scratch `arg17`, which the kernel carries between points, cover it: 1 piece of `S16x64` tiling it (Lib/Ring.lean `Piece.tiledL`). -/
theorem scover0_C_2 (y : S16x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.1 S16x64.size (by sl_kernel_rfl) y

/-- What case C leaves in scratch `arg17`: its pieces read back over junk. -/
def sout0_C_2 : Vec F S16x64 .f32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.1)

/-- Case C's pieces for scratch `arg18`, which the kernel carries between points, cover it: 1 piece of `S16x64` tiling it (Lib/Ring.lean `Piece.tiledL`). -/
theorem scover0_C_3 (y : S16x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.1 S16x64.size (by sl_kernel_rfl) y

/-- What case C leaves in scratch `arg18`: its pieces read back over junk. -/
def sout0_C_3 : Vec F S16x64 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.1)

/-- Case C's pieces for scratch `arg19`, which the kernel carries between points, cover it: 1 piece of `S4096x64` tiling it (Lib/Ring.lean `Piece.tiledL`). -/
theorem scover0_C_4 (y : S4096x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.2.1 S4096x64.size (by sl_kernel_rfl) y

/-- What case C leaves in scratch `arg19`: its pieces read back over junk. -/
def sout0_C_4 : Vec F S4096x64 .f32 :=
  VS0_4.read (Elt F) (VS0_4.writes (Elt F) VS0_4.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.2.1)

end CaseC

section CaseD

variable (c : Dev nD) (i : grid0.Coords) (arg1 : Memref sig .tc .vmem S16x256x512 .f32) (harg1 : arg1.IsWhole) (arg2 : Memref sig .tc .smem S1 .i32)
  (harg2 : arg2.IsWhole) (arg3 : Memref sig .tc .vmem S16x1 .i32) (harg3 : arg3.IsWhole) (arg4 : Memref sig .tc .vmem S512x512 .f32)
  (harg4 : arg4.IsWhole) (arg5 : Memref sig .tc .vmem S512x64 .f32) (harg5 : arg5.IsWhole) (arg6 : Memref sig .tc .vmem S64x64 .f32)
  (harg6 : arg6.IsWhole) (arg7 : Memref sig .tc .vmem S64x64 .f32) (harg7 : arg7.IsWhole) (arg8 : Memref sig .tc .vmem S1x512 .f32)
  (harg8 : arg8.IsWhole) (arg9 : Memref sig .tc .vmem S1x64 .f32) (harg9 : arg9.IsWhole) (arg10 : Memref sig .tc .vmem S1x64 .f32)
  (harg10 : arg10.IsWhole) (arg11 : Memref sig .tc .vmem S1x64 .f32) (harg11 : arg11.IsWhole) (arg12 : Memref sig .tc .vmem S64x64 .f32)
  (harg12 : arg12.IsWhole) (arg13 : Memref sig .tc .vmem S1x64 .f32) (harg13 : arg13.IsWhole) (arg14 : Memref sig .tc .vmem S16x64 .f32)
  (harg14 : arg14.IsWhole) (arg15 : Memref sig .tc .vmem S512x64 .f32) (harg15 : arg15.IsWhole) (arg16 : Memref sig .tc .vmem S1x64 .f32)
  (harg16 : arg16.IsWhole) (arg17 : Memref sig .tc .vmem S16x64 .f32) (harg17 : arg17.IsWhole) (arg18 : Memref sig .tc .vmem S16x64 .f32)
  (harg18 : arg18.IsWhole) (arg19 : Memref sig .tc .vmem S4096x64 .f32) (harg19 : arg19.IsWhole) (hc0 : ¬cond0_0 i) (hc2 : ¬cond0_2 i)
  (x0 : Vec F S16x256x512 .f32) (x1 : Vec F S1 .i32) (x2 : Vec F S16x1 .i32) (x3 : Vec F S512x512 .f32) (x4 : Vec F S512x64 .f32)
  (x5 : Vec F S64x64 .f32) (x6 : Vec F S64x64 .f32) (x7 : Vec F S1x512 .f32) (x8 : Vec F S1x64 .f32) (x9 : Vec F S1x64 .f32) (x10 : Vec F S1x64 .f32)
  (x11 : Vec F S64x64 .f32) (x12 : Vec F S1x64 .f32) (xs0 : Vec F S512x64 .f32) (xs1 : Vec F S1x64 .f32) (xs2 : Vec F S16x64 .f32)
  (xs3 : Vec F S16x64 .f32) (xs4 : Vec F S4096x64 .f32)
  (hc1 : ¬cond0_1 i (arg2.view.readAt (Elt F) (Rect.unit (s := S1) ![0] S1.size inb_S1_S1_0).toLoadRect (harg2.unread x1) (Shape.Idx.first (numel1_S1.symm ▸ Nat.one_pos))))
  (k0_hw1 : k0_chk1 i (arg2.view.readAt (Elt F) (Rect.unit (s := S1) ![0] S1.size inb_S1_S1_0).toLoadRect (harg2.unread x1) (Shape.Idx.first (numel1_S1.symm ▸ Nat.one_pos))))

/-- Case D stores nothing into output 13 (the window is idle at its points and not written back there):
    no pieces — a placeholder (junk read back) that nothing consults, since at these points the window is neither
    written back nor read at the next point (Lib/Pipeline.lean "Idle points"). -/
def out0_D_13 : Vec F S16x64 .f32 :=
  VO0_13.read (Elt F) (VO0_13.writes (Elt F) VO0_13.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).1)

/-- Case D stores nothing into scratch `arg15`: it holds what the point before left. -/
def sout0_D_0 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : ¬cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (xs4 : Vec F S4096x64 .f32) (hc1 : ¬cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S512x64 .f32 := xs0

/-- Case D stores nothing into scratch `arg16`: it holds what the point before left. -/
def sout0_D_1 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : ¬cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (xs4 : Vec F S4096x64 .f32) (hc1 : ¬cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S1x64 .f32 := xs1

/-- Case D's pieces for scratch `arg17`, which the kernel carries between points, cover it: 1 piece of `S16x64` tiling it (Lib/Ring.lean `Piece.tiledL`). -/
theorem scover0_D_2 (y : S16x64.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.1 S16x64.size (by sl_kernel_rfl) y

/-- What case D leaves in scratch `arg17`: its pieces read back over junk. -/
def sout0_D_2 : Vec F S16x64 .f32 :=
  VS0_2.read (Elt F) (VS0_2.writes (Elt F) VS0_2.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.1)

/-- Case D's pieces for scratch `arg18`, which the kernel carries between points, cover it: 1 piece of `S16x64` tiling it (Lib/Ring.lean `Piece.tiledL`). -/
theorem scover0_D_3 (y : S16x64.Idx) :
    ∃ pc ∈ (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.2.1, y ∈ pc.1.set :=
  View.cover_of_tiledL (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.2.1 S16x64.size (by sl_kernel_rfl) y

/-- What case D leaves in scratch `arg18`: its pieces read back over junk. -/
def sout0_D_3 : Vec F S16x64 .f32 :=
  VS0_3.read (Elt F) (VS0_3.writes (Elt F) VS0_3.junk (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.2.1)

/-- Case D stores nothing into scratch `arg19`: it holds what the point before left. -/
def sout0_D_4 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : ¬cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (xs4 : Vec F S4096x64 .f32) (hc1 : ¬cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S4096x64 .f32 := xs4

end CaseD

section CaseE

variable (c : Dev nD) (i : grid0.Coords) (arg1 : Memref sig .tc .vmem S16x256x512 .f32) (harg1 : arg1.IsWhole) (arg2 : Memref sig .tc .smem S1 .i32)
  (harg2 : arg2.IsWhole) (arg3 : Memref sig .tc .vmem S16x1 .i32) (harg3 : arg3.IsWhole) (arg4 : Memref sig .tc .vmem S512x512 .f32)
  (harg4 : arg4.IsWhole) (arg5 : Memref sig .tc .vmem S512x64 .f32) (harg5 : arg5.IsWhole) (arg6 : Memref sig .tc .vmem S64x64 .f32)
  (harg6 : arg6.IsWhole) (arg7 : Memref sig .tc .vmem S64x64 .f32) (harg7 : arg7.IsWhole) (arg8 : Memref sig .tc .vmem S1x512 .f32)
  (harg8 : arg8.IsWhole) (arg9 : Memref sig .tc .vmem S1x64 .f32) (harg9 : arg9.IsWhole) (arg10 : Memref sig .tc .vmem S1x64 .f32)
  (harg10 : arg10.IsWhole) (arg11 : Memref sig .tc .vmem S1x64 .f32) (harg11 : arg11.IsWhole) (arg12 : Memref sig .tc .vmem S64x64 .f32)
  (harg12 : arg12.IsWhole) (arg13 : Memref sig .tc .vmem S1x64 .f32) (harg13 : arg13.IsWhole) (arg14 : Memref sig .tc .vmem S16x64 .f32)
  (harg14 : arg14.IsWhole) (arg15 : Memref sig .tc .vmem S512x64 .f32) (harg15 : arg15.IsWhole) (arg16 : Memref sig .tc .vmem S1x64 .f32)
  (harg16 : arg16.IsWhole) (arg17 : Memref sig .tc .vmem S16x64 .f32) (harg17 : arg17.IsWhole) (arg18 : Memref sig .tc .vmem S16x64 .f32)
  (harg18 : arg18.IsWhole) (arg19 : Memref sig .tc .vmem S4096x64 .f32) (harg19 : arg19.IsWhole) (hc0 : ¬cond0_0 i) (hc2 : cond0_2 i)
  (x0 : Vec F S16x256x512 .f32) (x1 : Vec F S1 .i32) (x2 : Vec F S16x1 .i32) (x3 : Vec F S512x512 .f32) (x4 : Vec F S512x64 .f32)
  (x5 : Vec F S64x64 .f32) (x6 : Vec F S64x64 .f32) (x7 : Vec F S1x512 .f32) (x8 : Vec F S1x64 .f32) (x9 : Vec F S1x64 .f32) (x10 : Vec F S1x64 .f32)
  (x11 : Vec F S64x64 .f32) (x12 : Vec F S1x64 .f32) (xs0 : Vec F S512x64 .f32) (xs1 : Vec F S1x64 .f32) (xs2 : Vec F S16x64 .f32)
  (xs3 : Vec F S16x64 .f32)
  (hc1 : cond0_1 i (arg2.view.readAt (Elt F) (Rect.unit (s := S1) ![0] S1.size inb_S1_S1_0).toLoadRect (harg2.unread x1) (Shape.Idx.first (numel1_S1.symm ▸ Nat.one_pos))))
  (k0_hw1 : k0_chk1 i (arg2.view.readAt (Elt F) (Rect.unit (s := S1) ![0] S1.size inb_S1_S1_0).toLoadRect (harg2.unread x1) (Shape.Idx.first (numel1_S1.symm ▸ Nat.one_pos))))

/-- Case E's pieces for output 13 tile its block (1 store of `S16x64`, checked by the kernel's evaluation: Lib/Ring.lean `Piece.tiledL`, linear in the pieces, through a loop's `@[irreducible]` trip theorem too), so they cover it. -/
theorem cover0_E_13 (y : S16x64.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).1 S16x64.size (by sl_kernel_rfl) y

/-- What case E leaves in output 13's staging buffer: its pieces read back over junk. -/
def out0_E_13 : Vec F S16x64 .f32 :=
  VO0_13.read (Elt F) (VO0_13.writes (Elt F) VO0_13.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).1)

/-- Case E stores nothing into scratch `arg15`: it holds what the point before left. -/
def sout0_E_0 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (hc1 : cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S512x64 .f32 := xs0

/-- Case E stores nothing into scratch `arg16`: it holds what the point before left. -/
def sout0_E_1 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (hc1 : cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S1x64 .f32 := xs1

/-- Case E's pieces for scratch `arg17`, which the kernel carries between points, cover it: 1 piece of `S16x64` tiling it (Lib/Ring.lean `Piece.tiledL`). -/
theorem scover0_E_2 (y : S16x64.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.1 S16x64.size (by sl_kernel_rfl) y

/-- What case E leaves in scratch `arg17`: its pieces read back over junk. -/
def sout0_E_2 : Vec F S16x64 .f32 :=
  VS0_2.read (Elt F) (VS0_2.writes (Elt F) VS0_2.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.1)

/-- Case E's pieces for scratch `arg18`, which the kernel carries between points, cover it: 1 piece of `S16x64` tiling it (Lib/Ring.lean `Piece.tiledL`). -/
theorem scover0_E_3 (y : S16x64.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.1 S16x64.size (by sl_kernel_rfl) y

/-- What case E leaves in scratch `arg18`: its pieces read back over junk. -/
def sout0_E_3 : Vec F S16x64 .f32 :=
  VS0_3.read (Elt F) (VS0_3.writes (Elt F) VS0_3.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.1)

/-- Case E's pieces for scratch `arg19`, which the kernel carries between points, cover it: 1 piece of `S4096x64` tiling it (Lib/Ring.lean `Piece.tiledL`). -/
theorem scover0_E_4 (y : S4096x64.Idx) :
    ∃ pc ∈ (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.2.1, y ∈ pc.1.set :=
  View.cover_of_tiledL (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.2.1 S4096x64.size (by sl_kernel_rfl) y

/-- What case E leaves in scratch `arg19`: its pieces read back over junk. -/
def sout0_E_4 : Vec F S4096x64 .f32 :=
  VS0_4.read (Elt F) (VS0_4.writes (Elt F) VS0_4.junk (kernelRun0_E c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.2.1)

end CaseE

section CaseF

variable (c : Dev nD) (i : grid0.Coords) (arg1 : Memref sig .tc .vmem S16x256x512 .f32) (harg1 : arg1.IsWhole) (arg2 : Memref sig .tc .smem S1 .i32)
  (harg2 : arg2.IsWhole) (arg3 : Memref sig .tc .vmem S16x1 .i32) (harg3 : arg3.IsWhole) (arg4 : Memref sig .tc .vmem S512x512 .f32)
  (harg4 : arg4.IsWhole) (arg5 : Memref sig .tc .vmem S512x64 .f32) (harg5 : arg5.IsWhole) (arg6 : Memref sig .tc .vmem S64x64 .f32)
  (harg6 : arg6.IsWhole) (arg7 : Memref sig .tc .vmem S64x64 .f32) (harg7 : arg7.IsWhole) (arg8 : Memref sig .tc .vmem S1x512 .f32)
  (harg8 : arg8.IsWhole) (arg9 : Memref sig .tc .vmem S1x64 .f32) (harg9 : arg9.IsWhole) (arg10 : Memref sig .tc .vmem S1x64 .f32)
  (harg10 : arg10.IsWhole) (arg11 : Memref sig .tc .vmem S1x64 .f32) (harg11 : arg11.IsWhole) (arg12 : Memref sig .tc .vmem S64x64 .f32)
  (harg12 : arg12.IsWhole) (arg13 : Memref sig .tc .vmem S1x64 .f32) (harg13 : arg13.IsWhole) (arg14 : Memref sig .tc .vmem S16x64 .f32)
  (harg14 : arg14.IsWhole) (arg15 : Memref sig .tc .vmem S512x64 .f32) (harg15 : arg15.IsWhole) (arg16 : Memref sig .tc .vmem S1x64 .f32)
  (harg16 : arg16.IsWhole) (arg17 : Memref sig .tc .vmem S16x64 .f32) (harg17 : arg17.IsWhole) (arg18 : Memref sig .tc .vmem S16x64 .f32)
  (harg18 : arg18.IsWhole) (arg19 : Memref sig .tc .vmem S4096x64 .f32) (harg19 : arg19.IsWhole) (hc0 : ¬cond0_0 i) (hc2 : cond0_2 i)
  (x0 : Vec F S16x256x512 .f32) (x1 : Vec F S1 .i32) (x2 : Vec F S16x1 .i32) (x3 : Vec F S512x512 .f32) (x4 : Vec F S512x64 .f32)
  (x5 : Vec F S64x64 .f32) (x6 : Vec F S64x64 .f32) (x7 : Vec F S1x512 .f32) (x8 : Vec F S1x64 .f32) (x9 : Vec F S1x64 .f32) (x10 : Vec F S1x64 .f32)
  (x11 : Vec F S64x64 .f32) (x12 : Vec F S1x64 .f32) (xs0 : Vec F S512x64 .f32) (xs1 : Vec F S1x64 .f32) (xs2 : Vec F S16x64 .f32)
  (xs3 : Vec F S16x64 .f32) (xs4 : Vec F S4096x64 .f32)
  (hc1 : ¬cond0_1 i (arg2.view.readAt (Elt F) (Rect.unit (s := S1) ![0] S1.size inb_S1_S1_0).toLoadRect (harg2.unread x1) (Shape.Idx.first (numel1_S1.symm ▸ Nat.one_pos))))
  (k0_hw1 : k0_chk1 i (arg2.view.readAt (Elt F) (Rect.unit (s := S1) ![0] S1.size inb_S1_S1_0).toLoadRect (harg2.unread x1) (Shape.Idx.first (numel1_S1.symm ▸ Nat.one_pos))))

/-- Case F's pieces for output 13 tile its block (1 store of `S16x64`, checked by the kernel's evaluation: Lib/Ring.lean `Piece.tiledL`, linear in the pieces, through a loop's `@[irreducible]` trip theorem too), so they cover it. -/
theorem cover0_F_13 (y : S16x64.Idx) :
    ∃ pc ∈ (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).1, y ∈ pc.1.set :=
  View.cover_of_tiledL (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).1 S16x64.size (by sl_kernel_rfl) y

/-- What case F leaves in output 13's staging buffer: its pieces read back over junk. -/
def out0_F_13 : Vec F S16x64 .f32 :=
  VO0_13.read (Elt F) (VO0_13.writes (Elt F) VO0_13.junk (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).1)

/-- Case F stores nothing into scratch `arg15`: it holds what the point before left. -/
def sout0_F_0 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (xs4 : Vec F S4096x64 .f32) (hc1 : ¬cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S512x64 .f32 := xs0

/-- Case F stores nothing into scratch `arg16`: it holds what the point before left. -/
def sout0_F_1 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (xs4 : Vec F S4096x64 .f32) (hc1 : ¬cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S1x64 .f32 := xs1

/-- Case F's pieces for scratch `arg17`, which the kernel carries between points, cover it: 1 piece of `S16x64` tiling it (Lib/Ring.lean `Piece.tiledL`). -/
theorem scover0_F_2 (y : S16x64.Idx) :
    ∃ pc ∈ (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.1, y ∈ pc.1.set :=
  View.cover_of_tiledL (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.1 S16x64.size (by sl_kernel_rfl) y

/-- What case F leaves in scratch `arg17`: its pieces read back over junk. -/
def sout0_F_2 : Vec F S16x64 .f32 :=
  VS0_2.read (Elt F) (VS0_2.writes (Elt F) VS0_2.junk (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.1)

/-- Case F's pieces for scratch `arg18`, which the kernel carries between points, cover it: 1 piece of `S16x64` tiling it (Lib/Ring.lean `Piece.tiledL`). -/
theorem scover0_F_3 (y : S16x64.Idx) :
    ∃ pc ∈ (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.2.1, y ∈ pc.1.set :=
  View.cover_of_tiledL (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.2.1 S16x64.size (by sl_kernel_rfl) y

/-- What case F leaves in scratch `arg18`: its pieces read back over junk. -/
def sout0_F_3 : Vec F S16x64 .f32 :=
  VS0_3.read (Elt F) (VS0_3.writes (Elt F) VS0_3.junk (kernelRun0_F c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.2.1)

/-- Case F stores nothing into scratch `arg19`: it holds what the point before left. -/
def sout0_F_4 (c : Dev nD) (i : grid0.Coords) (arg1 : Memref sig .tc .vmem S16x256x512 .f32) (harg1 : arg1.IsWhole) (arg2 : Memref sig .tc .smem S1 .i32) (harg2 : arg2.IsWhole) (arg3 : Memref sig .tc .vmem S16x1 .i32) (harg3 : arg3.IsWhole) (arg4 : Memref sig .tc .vmem S512x512 .f32) (harg4 : arg4.IsWhole) (arg5 : Memref sig .tc .vmem S512x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x512 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S16x64 .f32) (harg14 : arg14.IsWhole) (arg15 : Memref sig .tc .vmem S512x64 .f32) (harg15 : arg15.IsWhole) (arg16 : Memref sig .tc .vmem S1x64 .f32) (harg16 : arg16.IsWhole) (arg17 : Memref sig .tc .vmem S16x64 .f32) (harg17 : arg17.IsWhole) (arg18 : Memref sig .tc .vmem S16x64 .f32) (harg18 : arg18.IsWhole) (arg19 : Memref sig .tc .vmem S4096x64 .f32) (harg19 : arg19.IsWhole) (hc0 : ¬cond0_0 i) (hc2 : cond0_2 i)
    (x0 : Vec F S16x256x512 .f32) (x1 : Vec F S1 .i32) (x2 : Vec F S16x1 .i32) (x3 : Vec F S512x512 .f32) (x4 : Vec F S512x64 .f32) (x5 : Vec F S64x64 .f32) (x6 : Vec F S64x64 .f32) (x7 : Vec F S1x512 .f32) (x8 : Vec F S1x64 .f32) (x9 : Vec F S1x64 .f32) (x10 : Vec F S1x64 .f32) (x11 : Vec F S64x64 .f32) (x12 : Vec F S1x64 .f32) (xs0 : Vec F S512x64 .f32) (xs1 : Vec F S1x64 .f32) (xs2 : Vec F S16x64 .f32) (xs3 : Vec F S16x64 .f32) (xs4 : Vec F S4096x64 .f32) (hc1 : ¬cond0_1 i (arg2.view.readAt (Elt F) (Rect.unit (s := S1) ![0] S1.size inb_S1_S1_0).toLoadRect (harg2.unread x1) (Shape.Idx.first (numel1_S1.symm ▸ Nat.one_pos)))) (k0_hw1 : k0_chk1 i (arg2.view.readAt (Elt F) (Rect.unit (s := S1) ![0] S1.size inb_S1_S1_0).toLoadRect (harg2.unread x1) (Shape.Idx.first (numel1_S1.symm ▸ Nat.one_pos)))) : Vec F S4096x64 .f32 := xs4

end CaseF

end Cert.Launch
-- ==== Proof.Points.lean ====
/- What the output and the carried scratch hold after each grid point, case by case, and the proof data of the launch.
   Adapted from the generated frame certificate. -/
module

public import proofs.«01_k».proof.Proof.Outs

@[expose] public section

set_option maxRecDepth 16384

noncomputable section

namespace Cert.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hH : Hyps m) (c : Dev nD) : (n : ℕ) → n < cfg0.N → Vec F S16x64 .f32 × Vec F S512x64 .f32 × Vec F S1x64 .f32 × Vec F S16x64 .f32 × Vec F S16x64 .f32 × Vec F S4096x64 .f32
  | 0, hn => if h1 : cond0_1 (grid0.coords ⟨0, hn⟩) ((ms0_1 ⟨0, hn⟩).view.readAt (Elt F) (Rect.unit (s := S1) ![0] S1.size inb_S1_S1_0).toLoadRect ((hs0_1 ⟨0, hn⟩).unread (iblk m c 1 ⟨0, hn⟩)) (Shape.Idx.first (numel1_S1.symm ▸ Nat.one_pos))) then
      (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) h1 (Hyps.c0 hH c ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) h1 (Hyps.c0 hH c ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) h1 (Hyps.c0 hH c ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) h1 (Hyps.c0 hH c ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) h1 (Hyps.c0 hH c ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) h1 (Hyps.c0 hH c ⟨0, hn⟩))
    else
      (out0_B_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((VO0_13.read (Elt F) VO0_13.junk, VS0_0.read (Elt F) VS0_0.junk, VS0_1.read (Elt F) VS0_1.junk, VS0_2.read (Elt F) VS0_2.junk, VS0_3.read (Elt F) VS0_3.junk, VS0_4.read (Elt F) VS0_4.junk) : Vec F S16x64 .f32 × Vec F S512x64 .f32 × Vec F S1x64 .f32 × Vec F S16x64 .f32 × Vec F S16x64 .f32 × Vec F S4096x64 .f32).2.2.2.2.2 h1 (Hyps.c0 hH c ⟨0, hn⟩), sout0_B_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((VO0_13.read (Elt F) VO0_13.junk, VS0_0.read (Elt F) VS0_0.junk, VS0_1.read (Elt F) VS0_1.junk, VS0_2.read (Elt F) VS0_2.junk, VS0_3.read (Elt F) VS0_3.junk, VS0_4.read (Elt F) VS0_4.junk) : Vec F S16x64 .f32 × Vec F S512x64 .f32 × Vec F S1x64 .f32 × Vec F S16x64 .f32 × Vec F S16x64 .f32 × Vec F S4096x64 .f32).2.2.2.2.2 h1 (Hyps.c0 hH c ⟨0, hn⟩), sout0_B_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((VO0_13.read (Elt F) VO0_13.junk, VS0_0.read (Elt F) VS0_0.junk, VS0_1.read (Elt F) VS0_1.junk, VS0_2.read (Elt F) VS0_2.junk, VS0_3.read (Elt F) VS0_3.junk, VS0_4.read (Elt F) VS0_4.junk) : Vec F S16x64 .f32 × Vec F S512x64 .f32 × Vec F S1x64 .f32 × Vec F S16x64 .f32 × Vec F S16x64 .f32 × Vec F S4096x64 .f32).2.2.2.2.2 h1 (Hyps.c0 hH c ⟨0, hn⟩), sout0_B_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((VO0_13.read (Elt F) VO0_13.junk, VS0_0.read (Elt F) VS0_0.junk, VS0_1.read (Elt F) VS0_1.junk, VS0_2.read (Elt F) VS0_2.junk, VS0_3.read (Elt F) VS0_3.junk, VS0_4.read (Elt F) VS0_4.junk) : Vec F S16x64 .f32 × Vec F S512x64 .f32 × Vec F S1x64 .f32 × Vec F S16x64 .f32 × Vec F S16x64 .f32 × Vec F S4096x64 .f32).2.2.2.2.2 h1 (Hyps.c0 hH c ⟨0, hn⟩), sout0_B_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((VO0_13.read (Elt F) VO0_13.junk, VS0_0.read (Elt F) VS0_0.junk, VS0_1.read (Elt F) VS0_1.junk, VS0_2.read (Elt F) VS0_2.junk, VS0_3.read (Elt F) VS0_3.junk, VS0_4.read (Elt F) VS0_4.junk) : Vec F S16x64 .f32 × Vec F S512x64 .f32 × Vec F S1x64 .f32 × Vec F S16x64 .f32 × Vec F S16x64 .f32 × Vec F S4096x64 .f32).2.2.2.2.2 h1 (Hyps.c0 hH c ⟨0, hn⟩), sout0_B_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) ((VO0_13.read (Elt F) VO0_13.junk, VS0_0.read (Elt F) VS0_0.junk, VS0_1.read (Elt F) VS0_1.junk, VS0_2.read (Elt F) VS0_2.junk, VS0_3.read (Elt F) VS0_3.junk, VS0_4.read (Elt F) VS0_4.junk) : Vec F S16x64 .f32 × Vec F S512x64 .f32 × Vec F S1x64 .f32 × Vec F S16x64 .f32 × Vec F S16x64 .f32 × Vec F S4096x64 .f32).2.2.2.2.2 h1 (Hyps.c0 hH c ⟨0, hn⟩))
  | n + 1, hn =>
    if h1 : cond0_1 (grid0.coords ⟨n + 1, hn⟩) ((ms0_1 ⟨n + 1, hn⟩).view.readAt (Elt F) (Rect.unit (s := S1) ![0] S1.size inb_S1_S1_0).toLoadRect ((hs0_1 ⟨n + 1, hn⟩).unread (iblk m c 1 ⟨n + 1, hn⟩)) (Shape.Idx.first (numel1_S1.symm ▸ Nat.one_pos))) then
      if h0 : (n + 1) % 8 = 0 then
        if h2 : (n + 1) % 8 = 7 then
          False.elim (by have hN : n + 1 < 8 := lt_of_lt_of_eq hn (show cfg0.N = 8 from N_0); omega)
        else
          (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) h1 (Hyps.c0 hH c ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) h1 (Hyps.c0 hH c ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) h1 (Hyps.c0 hH c ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) h1 (Hyps.c0 hH c ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) h1 (Hyps.c0 hH c ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) h1 (Hyps.c0 hH c ⟨n + 1, hn⟩))
      else
        if h2 : (n + 1) % 8 = 7 then
          (out0_E_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_E_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_E_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩))
        else
          (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩), sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 h1 (Hyps.c0 hH c ⟨n + 1, hn⟩))
    else
      if h0 : (n + 1) % 8 = 0 then
        if h2 : (n + 1) % 8 = 7 then
          False.elim (by have hN : n + 1 < 8 := lt_of_lt_of_eq hn (show cfg0.N = 8 from N_0); omega)
        else
          (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.2.2.2.2 h1 (Hyps.c0 hH c ⟨n + 1, hn⟩), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.2.2.2.2 h1 (Hyps.c0 hH c ⟨n + 1, hn⟩), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.2.2.2.2 h1 (Hyps.c0 hH c ⟨n + 1, hn⟩), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.2.2.2.2 h1 (Hyps.c0 hH c ⟨n + 1, hn⟩), sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.2.2.2.2 h1 (Hyps.c0 hH c ⟨n + 1, hn⟩), sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.2.2.2.2 h1 (Hyps.c0 hH c ⟨n + 1, hn⟩))
      else
        if h2 : (n + 1) % 8 = 7 then
          (out0_F_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_F_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_F_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_F_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_F_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_F_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩))
        else
          (out0_D_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩), sout0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 hH c n (Nat.lt_of_succ_lt hn)).2.1 (outsAt0 hH c n (Nat.lt_of_succ_lt hn)).2.2.1 (outsAt0 hH c n (Nat.lt_of_succ_lt hn)).2.2.2.1 (outsAt0 hH c n (Nat.lt_of_succ_lt hn)).2.2.2.2.1 (outsAt0 hH c n (Nat.lt_of_succ_lt hn)).2.2.2.2.2 h1 (Hyps.c0 hH c ⟨n + 1, hn⟩))

/-- `outsAt0` at a point of case A: that case's contents. -/
theorem outsAt0_A (hH : Hyps m) (c : Dev nD) (t : Fin cfg0.N) (h0 : t.val % 8 = 0) (h1 : cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))) (h2 : ¬t.val % 8 = 7) :
    outsAt0 m hH c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h1 (Hyps.c0 hH c t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h1 (Hyps.c0 hH c t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h1 (Hyps.c0 hH c t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h1 (Hyps.c0 hH c t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h1 (Hyps.c0 hH c t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h1 (Hyps.c0 hH c t)) := by
  obtain ⟨n, hn⟩ := t
  cases n with
  | zero => exact (dif_pos h1).trans rfl
  | succ n => exact (dif_pos h1).trans ((dif_pos h0).trans ((dif_neg h2).trans rfl))

/-- `outsAt0` at a point of case B: that case's contents, over what the point before left. -/
theorem outsAt0_B (hH : Hyps m) (c : Dev nD) (t : Fin cfg0.N) (h0 : t.val % 8 = 0) (h1 : ¬cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))) (h2 : ¬t.val % 8 = 7) (hq0B : ¬(t.val % 8 = 0)) :
    outsAt0 m hH c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.2.2.2.2 h1 (Hyps.c0 hH c t), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.2.2.2.2 h1 (Hyps.c0 hH c t), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.2.2.2.2 h1 (Hyps.c0 hH c t), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.2.2.2.2 h1 (Hyps.c0 hH c t), sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.2.2.2.2 h1 (Hyps.c0 hH c t), sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.2.2.2.2 h1 (Hyps.c0 hH c t)) := by
  obtain ⟨n, hn⟩ := t
  cases n with
  | zero => exact (by exfalso; (try dsimp only at hq0B); exact by omega)
  | succ n => exact (dif_neg h1).trans ((dif_pos h0).trans ((dif_neg h2).trans rfl))

/-- `outsAt0` at a point of case C: that case's contents, over what the point before left. -/
theorem outsAt0_C (hH : Hyps m) (c : Dev nD) (t : Fin cfg0.N) (h0 : ¬t.val % 8 = 0) (h1 : cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))) (h2 : ¬t.val % 8 = 7) :
    outsAt0 m hH c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t)) := by
  obtain ⟨n, hn⟩ := t
  cases n with
  | zero => exact (by exfalso; (try dsimp only at h0); exact absurd (Nat.zero_mod _) h0)
  | succ n => exact (dif_pos h1).trans ((dif_neg h0).trans ((dif_neg h2).trans rfl))

/-- `outsAt0` at a point of case D: that case's contents, over what the point before left. -/
theorem outsAt0_D (hH : Hyps m) (c : Dev nD) (t : Fin cfg0.N) (h0 : ¬t.val % 8 = 0) (h1 : ¬cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))) (h2 : ¬t.val % 8 = 7) :
    outsAt0 m hH c t.val t.isLt = (out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_D_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t)) := by
  obtain ⟨n, hn⟩ := t
  cases n with
  | zero => exact (by exfalso; (try dsimp only at h0); exact absurd (Nat.zero_mod _) h0)
  | succ n => exact (dif_neg h1).trans ((dif_neg h0).trans ((dif_neg h2).trans rfl))

/-- `outsAt0` at a point of case E: that case's contents, over what the point before left. -/
theorem outsAt0_E (hH : Hyps m) (c : Dev nD) (t : Fin cfg0.N) (h0 : ¬t.val % 8 = 0) (h1 : cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))) (h2 : t.val % 8 = 7) :
    outsAt0 m hH c t.val t.isLt = (out0_E_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_E_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t), sout0_E_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 h1 (Hyps.c0 hH c t)) := by
  obtain ⟨n, hn⟩ := t
  cases n with
  | zero => exact (by exfalso; (try dsimp only at h0); exact absurd (Nat.zero_mod _) h0)
  | succ n => exact (dif_pos h1).trans ((dif_neg h0).trans ((dif_pos h2).trans rfl))

/-- `outsAt0` at a point of case F: that case's contents, over what the point before left. -/
theorem outsAt0_F (hH : Hyps m) (c : Dev nD) (t : Fin cfg0.N) (h0 : ¬t.val % 8 = 0) (h1 : ¬cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))) (h2 : t.val % 8 = 7) :
    outsAt0 m hH c t.val t.isLt = (out0_F_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_F_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_F_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_F_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_F_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t), sout0_F_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m hH c (t.val - 1) (Nat.lt_of_le_of_lt (Nat.sub_le _ _) t.isLt)).2.1 (outsAt0 m hH c (t.val - 1) (Nat.lt_of_le_of_lt (Nat.sub_le _ _) t.isLt)).2.2.1 (outsAt0 m hH c (t.val - 1) (Nat.lt_of_le_of_lt (Nat.sub_le _ _) t.isLt)).2.2.2.1 (outsAt0 m hH c (t.val - 1) (Nat.lt_of_le_of_lt (Nat.sub_le _ _) t.isLt)).2.2.2.2.1 (outsAt0 m hH c (t.val - 1) (Nat.lt_of_le_of_lt (Nat.sub_le _ _) t.isLt)).2.2.2.2.2 h1 (Hyps.c0 hH c t)) := by
  obtain ⟨n, hn⟩ := t
  cases n with
  | zero => exact (by exfalso; (try dsimp only at h0); exact absurd (Nat.zero_mod _) h0)
  | succ n => exact (dif_neg h1).trans ((dif_neg h0).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hH : Hyps m) (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m hH c n hn).2.1) ∗ owns (c : Thread nD τ) scM0_1 fullShare ((outsAt0 m hH c n hn).2.2.1) ∗ owns (c : Thread nD τ) scM0_2 fullShare ((outsAt0 m hH c n hn).2.2.2.1) ∗ owns (c : Thread nD τ) scM0_3 fullShare ((outsAt0 m hH c n hn).2.2.2.2.1) ∗ owns (c : Thread nD τ) scM0_4 fullShare ((outsAt0 m hH c n hn).2.2.2.2.2)) ∗ (∃ r, prngReg c r))

theorem PhiS_zero (hH : Hyps m) (c : Dev nD) (n : ℕ) (h : n ≤ cfg0.N) (hz : n = 0) : PhiS m hH c n h = Pipeline.ΦA spec0 c := by
  subst hz; rfl

/-- After point `n` (before point `n + 1`): the carried scratch at that point's contents. -/
theorem PhiS_succ (hH : Hyps m) (c : Dev nD) (n : ℕ) (hn : n < cfg0.N) :
    PhiS m hH c (n + 1) hn = iprop(iprop(owns (c : Thread nD τ) scM0_0 fullShare ((outsAt0 m hH c n hn).2.1) ∗ owns (c : Thread nD τ) scM0_1 fullShare ((outsAt0 m hH c n hn).2.2.1) ∗ owns (c : Thread nD τ) scM0_2 fullShare ((outsAt0 m hH c n hn).2.2.2.1) ∗ owns (c : Thread nD τ) scM0_3 fullShare ((outsAt0 m hH c n hn).2.2.2.2.1) ∗ owns (c : Thread nD τ) scM0_4 fullShare ((outsAt0 m hH c n hn).2.2.2.2.2)) ∗ (∃ r, prngReg c r)) := rfl

/-- Before a point that is not the first: the carried scratch at what the point before left. -/
theorem PhiS_pos (hH : Hyps m) (c : Dev nD) (n : ℕ) (h : n ≤ cfg0.N) (hz : n ≠ 0) :
    PhiS m hH c n h = iprop(iprop(owns (c : Thread nD τ) scM0_0 fullShare ((outsAt0 m hH c (n - 1) (by omega)).2.1) ∗ owns (c : Thread nD τ) scM0_1 fullShare ((outsAt0 m hH c (n - 1) (by omega)).2.2.1) ∗ owns (c : Thread nD τ) scM0_2 fullShare ((outsAt0 m hH c (n - 1) (by omega)).2.2.2.1) ∗ owns (c : Thread nD τ) scM0_3 fullShare ((outsAt0 m hH c (n - 1) (by omega)).2.2.2.2.1) ∗ owns (c : Thread nD τ) scM0_4 fullShare ((outsAt0 m hH c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m hH c t.val t.isLt).1
  Φ t := PhiS m hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- The invariant at a point's start (the proof data at `t.castSucc`), restated at `t.val`. -/
theorem PhiS_castSucc (hH : Hyps m) (c : Dev nD) (t : Fin cfg0.N) :
    (dats m hH 0 c).Φ t.castSucc = PhiS m hH c t.val (Nat.le_of_lt t.isLt) := by
  dsimp only [dats]; exact Pipeline.Dat.Φ_castSucc (PhiS m hH c) t

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]
theorem after0_9 (hH : Hyps m) (c : Dev nD) (t : Fin cfg0.N) : (dats m hH 0 c).after 9 t = iblk m c 9 t := by dsimp only [dats]
theorem after0_10 (hH : Hyps m) (c : Dev nD) (t : Fin cfg0.N) : (dats m hH 0 c).after 10 t = iblk m c 10 t := by dsimp only [dats]
theorem after0_11 (hH : Hyps m) (c : Dev nD) (t : Fin cfg0.N) : (dats m hH 0 c).after 11 t = iblk m c 11 t := by dsimp only [dats]
theorem after0_12 (hH : Hyps m) (c : Dev nD) (t : Fin cfg0.N) : (dats m hH 0 c).after 12 t = iblk m c 12 t := by dsimp only [dats]
theorem after0_13 (hH : Hyps m) (c : Dev nD) (t : Fin cfg0.N) : (dats m hH 0 c).after 13 t = (outsAt0 m hH c t.val t.isLt).1 := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d
theorem before0_9 (hH : Hyps m) (c : Dev nD) (t : Fin cfg0.N) (d) : (dats m hH 0 c).before 9 t d = iblk m c 9 t :=
  before0_9_of m (dats m hH 0 c) (A_eq m hH c 9) (after0_9 m hH c) t d
theorem before0_10 (hH : Hyps m) (c : Dev nD) (t : Fin cfg0.N) (d) : (dats m hH 0 c).before 10 t d = iblk m c 10 t :=
  before0_10_of m (dats m hH 0 c) (A_eq m hH c 10) (after0_10 m hH c) t d
theorem before0_11 (hH : Hyps m) (c : Dev nD) (t : Fin cfg0.N) (d) : (dats m hH 0 c).before 11 t d = iblk m c 11 t :=
  before0_11_of m (dats m hH 0 c) (A_eq m hH c 11) (after0_11 m hH c) t d
theorem before0_12 (hH : Hyps m) (c : Dev nD) (t : Fin cfg0.N) (d) : (dats m hH 0 c).before 12 t d = iblk m c 12 t :=
  before0_12_of m (dats m hH 0 c) (A_eq m hH c 12) (after0_12 m hH c) t d

/-! ## The body obligation, at a generic point -/

/-- What the body is called with at point `t` (Lib/Pipeline.lean `BodyObligation`'s precondition, the windows one by one), -/
def bodyPre (hH : Hyps m) (c : Dev nD) (t : Fin cfg0.N) : sProp (MT nD τ sig Unit (Elt F) ℕ (UR sig nD τ) ℕ) :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare ((dats m hH 0 c).before 9 t d))
    ∗ (∃ d, owns (c : Thread nD τ) (ms0_10 t) fullShare ((dats m hH 0 c).before 10 t d))
    ∗ (∃ d, owns (c : Thread nD τ) (ms0_11 t) fullShare ((dats m hH 0 c).before 11 t d))
    ∗ (∃ d, owns (c : Thread nD τ) (ms0_12 t) fullShare ((dats m hH 0 c).before 12 t d))
    ∗ (∃ d, owns (c : Thread nD τ) (ms0_13 t) fullShare ((dats m hH 0 c).before 13 t d)))

/-- and what it returns. -/
def bodyPost (hH : Hyps m) (c : Dev nD) (t : Fin cfg0.N) : sProp (MT nD τ sig Unit (Elt F) ℕ (UR sig nD τ) ℕ) :=
  iprop((dats m hH 0 c).Φ t.succ ∗ (dats m hH 0 c).owesAt () t.succ
    ∗ (dats m hH 0 c).leavesExact 0 t
    ∗ (dats m hH 0 c).leavesExact 1 t
    ∗ (dats m hH 0 c).leavesExact 2 t
    ∗ (dats m hH 0 c).leavesExact 3 t
    ∗ (dats m hH 0 c).leavesExact 4 t
    ∗ (dats m hH 0 c).leavesExact 5 t
    ∗ (dats m hH 0 c).leavesExact 6 t
    ∗ (dats m hH 0 c).leavesExact 7 t
    ∗ (dats m hH 0 c).leavesExact 8 t
    ∗ (dats m hH 0 c).leavesExact 9 t
    ∗ (dats m hH 0 c).leavesExact 10 t
    ∗ (dats m hH 0 c).leavesExact 11 t
    ∗ (dats m hH 0 c).leavesExact 12 t
    ∗ (dats m hH 0 c).leavesExact 13 t)

end Cert.Launch
-- ==== Proof.Launch.lean ====
/- The body's triple at every grid point, the launch, and the frame. Adapted from the generated frame certificate: the
   cases' runs are kept closed here, so that two ways of writing the same run's arguments are compared argument by argument. -/
module

public import proofs.«01_k».proof.Proof.Points

@[expose] public section

set_option maxRecDepth 16384

noncomputable section

namespace Cert.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

attribute [local irreducible] kernelRun0_A kernelRun0_B kernelRun0_C kernelRun0_D kernelRun0_E kernelRun0_F

set_option maxHeartbeats 38400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3, before0_4, before0_5, before0_6, before0_7, before0_8, before0_9, before0_10, before0_11, before0_12]
  rw [show (dats m hH 0 c).owesAt () t.succ = (dats m hH 0 c).owesAt () t.castSucc from rfl]
  rw [show (dats m hH 0 c).Φ t.succ = PhiS m hH c (t.val + 1) t.isLt from rfl, PhiS_succ]
  have hN : t.val < 8 := lt_of_lt_of_eq t.isLt (show cfg0.N = 8 from N_0)
  by_cases h0 : t.val % 8 = 0
  · by_cases h1 : cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))
    · by_cases h2 : t.val % 8 = 7
      · exfalso; omega
      · rw [show (dats m hH 0 c).leavesExact 0 t = owns (c : Thread nD τ) (ms0_0 t) fullShare ((dats m hH 0 c).after 0 t) from by
      unfold Dat.leavesExact; rw [liveAt0_0 t], after0_0]
        rw [show (dats m hH 0 c).leavesExact 1 t = owns (c : Thread nD τ) (ms0_1 t) fullShare ((dats m hH 0 c).after 1 t) from by
      unfold Dat.leavesExact; rw [liveAt0_1 t], after0_1]
        rw [show (dats m hH 0 c).leavesExact 2 t = owns (c : Thread nD τ) (ms0_2 t) fullShare ((dats m hH 0 c).after 2 t) from by
      unfold Dat.leavesExact; rw [liveAt0_2 t], after0_2]
        rw [show (dats m hH 0 c).leavesExact 3 t = owns (c : Thread nD τ) (ms0_3 t) fullShare ((dats m hH 0 c).after 3 t) from by
      unfold Dat.leavesExact; rw [liveAt0_3 t], after0_3]
        rw [show (dats m hH 0 c).leavesExact 4 t = owns (c : Thread nD τ) (ms0_4 t) fullShare ((dats m hH 0 c).after 4 t) from by
      unfold Dat.leavesExact; rw [liveAt0_4 t], after0_4]
        rw [show (dats m hH 0 c).leavesExact 5 t = owns (c : Thread nD τ) (ms0_5 t) fullShare ((dats m hH 0 c).after 5 t) from by
      unfold Dat.leavesExact; rw [liveAt0_5 t], after0_5]
        rw [show (dats m hH 0 c).leavesExact 6 t = owns (c : Thread nD τ) (ms0_6 t) fullShare ((dats m hH 0 c).after 6 t) from by
      unfold Dat.leavesExact; rw [liveAt0_6 t], after0_6]
        rw [show (dats m hH 0 c).leavesExact 7 t = owns (c : Thread nD τ) (ms0_7 t) fullShare ((dats m hH 0 c).after 7 t) from by
      unfold Dat.leavesExact; rw [liveAt0_7 t], after0_7]
        rw [show (dats m hH 0 c).leavesExact 8 t = owns (c : Thread nD τ) (ms0_8 t) fullShare ((dats m hH 0 c).after 8 t) from by
      unfold Dat.leavesExact; rw [liveAt0_8 t], after0_8]
        rw [show (dats m hH 0 c).leavesExact 9 t = owns (c : Thread nD τ) (ms0_9 t) fullShare ((dats m hH 0 c).after 9 t) from by
      unfold Dat.leavesExact; rw [liveAt0_9 t], after0_9]
        rw [show (dats m hH 0 c).leavesExact 10 t = owns (c : Thread nD τ) (ms0_10 t) fullShare ((dats m hH 0 c).after 10 t) from by
      unfold Dat.leavesExact; rw [liveAt0_10 t], after0_10]
        rw [show (dats m hH 0 c).leavesExact 11 t = owns (c : Thread nD τ) (ms0_11 t) fullShare ((dats m hH 0 c).after 11 t) from by
      unfold Dat.leavesExact; rw [liveAt0_11 t], after0_11]
        rw [show (dats m hH 0 c).leavesExact 12 t = owns (c : Thread nD τ) (ms0_12 t) fullShare ((dats m hH 0 c).after 12 t) from by
      unfold Dat.leavesExact; rw [liveAt0_12 t], after0_12]
        rw [Dat.leavesExact_idle (dats m hH 0 c) 13 t (idleAt0_13_A t ((hcond0_0 t).mpr h0) (fun h => h2 ((hcond0_2 t).mp h))) (noFlush0_13_A t ((hcond0_0 t).mpr h0) (fun h => h2 ((hcond0_2 t).mp h)))]
        by_cases hz : t.val = 0
        · rw [PhiS_castSucc m hH c t, PhiS_zero m hH c _ _ hz, PhiA0_eq]
          rw [outsAt0_A m hH c t h0 h1 h2]
          unfold sout0_A_0 sout0_A_1 sout0_A_2 sout0_A_3 sout0_A_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_A c (grid0.coords t) _ _ _ _ _ _ _ _ _ _ _ _ _ _ _ _ _ _ _ _ _ _ _ _ _ _ _ _ _ _ _ _ _ _ _ _ _ _ ((hcond0_0 t).mpr h0) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) h1 (Hyps.c0 hH c t)).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, ⟨%es0, HS0⟩, ⟨%es1, HS1⟩, ⟨%es2, HS2⟩, ⟨%es3, HS3⟩, ⟨%es4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          iexists _; iexact H13
        · exfalso; have hN : t.val < 8 := lt_of_lt_of_eq t.isLt (show cfg0.N = 8 from N_0); omega
    · by_cases h2 : t.val % 8 = 7
      · exfalso; omega
      · rw [show (dats m hH 0 c).leavesExact 0 t = owns (c : Thread nD τ) (ms0_0 t) fullShare ((dats m hH 0 c).after 0 t) from by
      unfold Dat.leavesExact; rw [liveAt0_0 t], after0_0]
        rw [show (dats m hH 0 c).leavesExact 1 t = owns (c : Thread nD τ) (ms0_1 t) fullShare ((dats m hH 0 c).after 1 t) from by
      unfold Dat.leavesExact; rw [liveAt0_1 t], after0_1]
        rw [show (dats m hH 0 c).leavesExact 2 t = owns (c : Thread nD τ) (ms0_2 t) fullShare ((dats m hH 0 c).after 2 t) from by
      unfold Dat.leavesExact; rw [liveAt0_2 t], after0_2]
        rw [show (dats m hH 0 c).leavesExact 3 t = owns (c : Thread nD τ) (ms0_3 t) fullShare ((dats m hH 0 c).after 3 t) from by
      unfold Dat.leavesExact; rw [liveAt0_3 t], after0_3]
        rw [show (dats m hH 0 c).leavesExact 4 t = owns (c : Thread nD τ) (ms0_4 t) fullShare ((dats m hH 0 c).after 4 t) from by
      unfold Dat.leavesExact; rw [liveAt0_4 t], after0_4]
        rw [show (dats m hH 0 c).leavesExact 5 t = owns (c : Thread nD τ) (ms0_5 t) fullShare ((dats m hH 0 c).after 5 t) from by
      unfold Dat.leavesExact; rw [liveAt0_5 t], after0_5]
        rw [show (dats m hH 0 c).leavesExact 6 t = owns (c : Thread nD τ) (ms0_6 t) fullShare ((dats m hH 0 c).after 6 t) from by
      unfold Dat.leavesExact; rw [liveAt0_6 t], after0_6]
        rw [show (dats m hH 0 c).leavesExact 7 t = owns (c : Thread nD τ) (ms0_7 t) fullShare ((dats m hH 0 c).after 7 t) from by
      unfold Dat.leavesExact; rw [liveAt0_7 t], after0_7]
        rw [show (dats m hH 0 c).leavesExact 8 t = owns (c : Thread nD τ) (ms0_8 t) fullShare ((dats m hH 0 c).after 8 t) from by
      unfold Dat.leavesExact; rw [liveAt0_8 t], after0_8]
        rw [show (dats m hH 0 c).leavesExact 9 t = owns (c : Thread nD τ) (ms0_9 t) fullShare ((dats m hH 0 c).after 9 t) from by
      unfold Dat.leavesExact; rw [liveAt0_9 t], after0_9]
        rw [show (dats m hH 0 c).leavesExact 10 t = owns (c : Thread nD τ) (ms0_10 t) fullShare ((dats m hH 0 c).after 10 t) from by
      unfold Dat.leavesExact; rw [liveAt0_10 t], after0_10]
        rw [show (dats m hH 0 c).leavesExact 11 t = owns (c : Thread nD τ) (ms0_11 t) fullShare ((dats m hH 0 c).after 11 t) from by
      unfold Dat.leavesExact; rw [liveAt0_11 t], after0_11]
        rw [show (dats m hH 0 c).leavesExact 12 t = owns (c : Thread nD τ) (ms0_12 t) fullShare ((dats m hH 0 c).after 12 t) from by
      unfold Dat.leavesExact; rw [liveAt0_12 t], after0_12]
        rw [Dat.leavesExact_idle (dats m hH 0 c) 13 t (idleAt0_13_B t ((hcond0_0 t).mpr h0) (fun h => h2 ((hcond0_2 t).mp h))) (noFlush0_13_B t ((hcond0_0 t).mpr h0) (fun h => h2 ((hcond0_2 t).mp h)))]
        by_cases hz : t.val = 0
        · exfalso; have := Hyps.c1 hH c t ((hcond0_0 t).mpr h0) h1 (fun h => h2 ((hcond0_2 t).mp h)); omega
        · exfalso; have hN : t.val < 8 := lt_of_lt_of_eq t.isLt (show cfg0.N = 8 from N_0); omega
  · by_cases h1 : cond0_1 (grid0.coords t) ((ms0_1 t).view.readAt (Elt F) (Rect.unit (s := S1) ![0] S1.size inb_S1_S1_0).toLoadRect ((hs0_1 t).unread (iblk m c 1 t)) (Shape.Idx.first (numel1_S1.symm ▸ Nat.one_pos)))
    · by_cases h2 : t.val % 8 = 7
      · rw [show (dats m hH 0 c).leavesExact 0 t = owns (c : Thread nD τ) (ms0_0 t) fullShare ((dats m hH 0 c).after 0 t) from by
      unfold Dat.leavesExact; rw [liveAt0_0 t], after0_0]
        rw [show (dats m hH 0 c).leavesExact 1 t = owns (c : Thread nD τ) (ms0_1 t) fullShare ((dats m hH 0 c).after 1 t) from by
      unfold Dat.leavesExact; rw [liveAt0_1 t], after0_1]
        rw [show (dats m hH 0 c).leavesExact 2 t = owns (c : Thread nD τ) (ms0_2 t) fullShare ((dats m hH 0 c).after 2 t) from by
      unfold Dat.leavesExact; rw [liveAt0_2 t], after0_2]
        rw [show (dats m hH 0 c).leavesExact 3 t = owns (c : Thread nD τ) (ms0_3 t) fullShare ((dats m hH 0 c).after 3 t) from by
      unfold Dat.leavesExact; rw [liveAt0_3 t], after0_3]
        rw [show (dats m hH 0 c).leavesExact 4 t = owns (c : Thread nD τ) (ms0_4 t) fullShare ((dats m hH 0 c).after 4 t) from by
      unfold Dat.leavesExact; rw [liveAt0_4 t], after0_4]
        rw [show (dats m hH 0 c).leavesExact 5 t = owns (c : Thread nD τ) (ms0_5 t) fullShare ((dats m hH 0 c).after 5 t) from by
      unfold Dat.leavesExact; rw [liveAt0_5 t], after0_5]
        rw [show (dats m hH 0 c).leavesExact 6 t = owns (c : Thread nD τ) (ms0_6 t) fullShare ((dats m hH 0 c).after 6 t) from by
      unfold Dat.leavesExact; rw [liveAt0_6 t], after0_6]
        rw [show (dats m hH 0 c).leavesExact 7 t = owns (c : Thread nD τ) (ms0_7 t) fullShare ((dats m hH 0 c).after 7 t) from by
      unfold Dat.leavesExact; rw [liveAt0_7 t], after0_7]
        rw [show (dats m hH 0 c).leavesExact 8 t = owns (c : Thread nD τ) (ms0_8 t) fullShare ((dats m hH 0 c).after 8 t) from by
      unfold Dat.leavesExact; rw [liveAt0_8 t], after0_8]
        rw [show (dats m hH 0 c).leavesExact 9 t = owns (c : Thread nD τ) (ms0_9 t) fullShare ((dats m hH 0 c).after 9 t) from by
      unfold Dat.leavesExact; rw [liveAt0_9 t], after0_9]
        rw [show (dats m hH 0 c).leavesExact 10 t = owns (c : Thread nD τ) (ms0_10 t) fullShare ((dats m hH 0 c).after 10 t) from by
      unfold Dat.leavesExact; rw [liveAt0_10 t], after0_10]
        rw [show (dats m hH 0 c).leavesExact 11 t = owns (c : Thread nD τ) (ms0_11 t) fullShare ((dats m hH 0 c).after 11 t) from by
      unfold Dat.leavesExact; rw [liveAt0_11 t], after0_11]
        rw [show (dats m hH 0 c).leavesExact 12 t = owns (c : Thread nD τ) (ms0_12 t) fullShare ((dats m hH 0 c).after 12 t) from by
      unfold Dat.leavesExact; rw [liveAt0_12 t], after0_12]
        rw [show (dats m hH 0 c).leavesExact 13 t = owns (c : Thread nD τ) (ms0_13 t) fullShare ((dats m hH 0 c).after 13 t) from by
      unfold Dat.leavesExact; rw [liveAt0_13_E t (fun h => h0 ((hcond0_0 t).mp h)) ((hcond0_2 t).mpr h2)], after0_13]
        by_cases hz : t.val = 0
        · exfalso; have hN : t.val < 8 := lt_of_lt_of_eq t.isLt (show cfg0.N = 8 from N_0); omega
        · rw [PhiS_castSucc m hH c t, PhiS_pos m hH c _ _ hz]
          rw [outsAt0_E m hH c t h0 h1 h2]
          unfold out0_E_13 sout0_E_0 sout0_E_1 sout0_E_2 sout0_E_3 sout0_E_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_E c (grid0.coords t) _ _ _ _ _ _ _ _ _ _ _ _ _ _ _ _ _ _ _ _ _ _ _ _ _ _ _ _ _ _ _ _ _ _ _ _ _ _ (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ h1 (Hyps.c0 hH c t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [HS0]; · iexact HS0
          isplitl [HS1]; · iexact HS1
          isplitl [HS2]; · iexact HS2
          isplitl [HS3]; · iexact HS3
          isplitl [HS4]; · iexists _; iexact HS4
          iintro ⟨H0, H1, H2, H3, H4, H5, H6, H7, H8, H9, H10, H11, H12, ⟨%e13, H13⟩, HS0, HS1, ⟨%es2, HS2⟩, ⟨%es3, HS3⟩, ⟨%es4, HS4⟩⟩
          isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_E_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_E_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_E_4 c _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          unfold owns; iexists _; isplitr
          swap; · iexact H13
          ipureintro; exact View.read_writes_of_cover _ _ _ _ _ (cover0_E_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
      · rw [show (dats m hH 0 c).leavesExact 0 t = owns (c : Thread nD τ) (ms0_0 t) fullShare ((dats m hH 0 c).after 0 t) from by
      unfold Dat.leavesExact; rw [liveAt0_0 t], after0_0]
        rw [show (dats m hH 0 c).leavesExact 1 t = owns (c : Thread nD τ) (ms0_1 t) fullShare ((dats m hH 0 c).after 1 t) from by
      unfold Dat.leavesExact; rw [liveAt0_1 t], after0_1]
        rw [show (dats m hH 0 c).leavesExact 2 t = owns (c : Thread nD τ) (ms0_2 t) fullShare ((dats m hH 0 c).after 2 t) from by
      unfold Dat.leavesExact; rw [liveAt0_2 t], after0_2]
        rw [show (dats m hH 0 c).leavesExact 3 t = owns (c : Thread nD τ) (ms0_3 t) fullShare ((dats m hH 0 c).after 3 t) from by
      unfold Dat.leavesExact; rw [liveAt0_3 t], after0_3]
        rw [show (dats m hH 0 c).leavesExact 4 t = owns (c : Thread nD τ) (ms0_4 t) fullShare ((dats m hH 0 c).after 4 t) from by
      unfold Dat.leavesExact; rw [liveAt0_4 t], after0_4]
        rw [show (dats m hH 0 c).leavesExact 5 t = owns (c : Thread nD τ) (ms0_5 t) fullShare ((dats m hH 0 c).after 5 t) from by
      unfold Dat.leavesExact; rw [liveAt0_5 t], after0_5]
        rw [show (dats m hH 0 c).leavesExact 6 t = owns (c : Thread nD τ) (ms0_6 t) fullShare ((dats m hH 0 c).after 6 t) from by
      unfold Dat.leavesExact; rw [liveAt0_6 t], after0_6]
        rw [show (dats m hH 0 c).leavesExact 7 t = owns (c : Thread nD τ) (ms0_7 t) fullShare ((dats m hH 0 c).after 7 t) from by
      unfold Dat.leavesExact; rw [liveAt0_7 t], after0_7]
        rw [show (dats m hH 0 c).leavesExact 8 t = owns (c : Thread nD τ) (ms0_8 t) fullShare ((dats m hH 0 c).after 8 t) from by
      unfold Dat.leavesExact; rw [liveAt0_8 t], after0_8]
        rw [show (dats m hH 0 c).leavesExact 9 t = owns (c : Thread nD τ) (ms0_9 t) fullShare ((dats m hH 0 c).after 9 t) from by
      unfold Dat.leavesExact; rw [liveAt0_9 t], after0_9]
        rw [show (dats m hH 0 c).leavesExact 10 t = owns (c : Thread nD τ) (ms0_10 t) fullShare ((dats m hH 0 c).after 10 t) from by
      unfold Dat.leavesExact; rw [liveAt0_10 t], after0_10]
        rw [show (dats m hH 0 c).leavesExact 11 t = owns (c : Thread nD τ) (ms0_11 t) fullShare ((dats m hH 0 c).after 11 t) from by
      unfold Dat.leavesExact; rw [liveAt0_11 t], after0_11]
        rw [show (dats m hH 0 c).leavesExact 12 t = owns (c : Thread nD τ) (ms0_12 t) fullShare ((dats m hH 0 c).after 12 t) from by
      unfold Dat.leavesExact; rw [liveAt0_12 t], after0_12]
        rw [Dat.leavesExact_idle (dats m hH 0 c) 13 t (idleAt0_13_C t (fun h => h0 ((hcond0_0 t).mp h)) (fun h => h2 ((hcond0_2 t).mp h))) (noFlush0_13_C t (fun h => h0 ((hcond0_0 t).mp h)) (fun h => h2 ((hcond0_2 t).mp h)))]
        by_cases hz : t.val = 0
        · exfalso; have hN : t.val < 8 := lt_of_lt_of_eq t.isLt (show cfg0.N = 8 from N_0); omega
        · rw [PhiS_castSucc m hH c t, PhiS_pos m hH c _ _ hz]
          rw [outsAt0_C m hH c t h0 h1 h2]
          unfold sout0_C_0 sout0_C_1 sout0_C_2 sout0_C_3 sout0_C_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_C c (grid0.coords t) _ _ _ _ _ _ _ _ _ _ _ _ _ _ _ _ _ _ _ _ _ _ _ _ _ _ _ _ _ _ _ _ _ _ _ _ _ _ (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ h1 (Hyps.c0 hH c t)).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [HS0]; · iexact HS0
          isplitl [HS1]; · iexact HS1
          isplitl [HS2]; · iexact HS2
          isplitl [HS3]; · iexact HS3
          isplitl [HS4]; · iexists _; iexact HS4
          iintro ⟨H0, H1, H2, H3, H4, H5, H6, H7, H8, H9, H10, H11, H12, H13, HS0, HS1, ⟨%es2, HS2⟩, ⟨%es3, HS3⟩, ⟨%es4, HS4⟩⟩
          isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_C_4 c _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          iexists _; iexact H13
    · by_cases h2 : t.val % 8 = 7
      · rw [show (dats m hH 0 c).leavesExact 0 t = owns (c : Thread nD τ) (ms0_0 t) fullShare ((dats m hH 0 c).after 0 t) from by
      unfold Dat.leavesExact; rw [liveAt0_0 t], after0_0]
        rw [show (dats m hH 0 c).leavesExact 1 t = owns (c : Thread nD τ) (ms0_1 t) fullShare ((dats m hH 0 c).after 1 t) from by
      unfold Dat.leavesExact; rw [liveAt0_1 t], after0_1]
        rw [show (dats m hH 0 c).leavesExact 2 t = owns (c : Thread nD τ) (ms0_2 t) fullShare ((dats m hH 0 c).after 2 t) from by
      unfold Dat.leavesExact; rw [liveAt0_2 t], after0_2]
        rw [show (dats m hH 0 c).leavesExact 3 t = owns (c : Thread nD τ) (ms0_3 t) fullShare ((dats m hH 0 c).after 3 t) from by
      unfold Dat.leavesExact; rw [liveAt0_3 t], after0_3]
        rw [show (dats m hH 0 c).leavesExact 4 t = owns (c : Thread nD τ) (ms0_4 t) fullShare ((dats m hH 0 c).after 4 t) from by
      unfold Dat.leavesExact; rw [liveAt0_4 t], after0_4]
        rw [show (dats m hH 0 c).leavesExact 5 t = owns (c : Thread nD τ) (ms0_5 t) fullShare ((dats m hH 0 c).after 5 t) from by
      unfold Dat.leavesExact; rw [liveAt0_5 t], after0_5]
        rw [show (dats m hH 0 c).leavesExact 6 t = owns (c : Thread nD τ) (ms0_6 t) fullShare ((dats m hH 0 c).after 6 t) from by
      unfold Dat.leavesExact; rw [liveAt0_6 t], after0_6]
        rw [show (dats m hH 0 c).leavesExact 7 t = owns (c : Thread nD τ) (ms0_7 t) fullShare ((dats m hH 0 c).after 7 t) from by
      unfold Dat.leavesExact; rw [liveAt0_7 t], after0_7]
        rw [show (dats m hH 0 c).leavesExact 8 t = owns (c : Thread nD τ) (ms0_8 t) fullShare ((dats m hH 0 c).after 8 t) from by
      unfold Dat.leavesExact; rw [liveAt0_8 t], after0_8]
        rw [show (dats m hH 0 c).leavesExact 9 t = owns (c : Thread nD τ) (ms0_9 t) fullShare ((dats m hH 0 c).after 9 t) from by
      unfold Dat.leavesExact; rw [liveAt0_9 t], after0_9]
        rw [show (dats m hH 0 c).leavesExact 10 t = owns (c : Thread nD τ) (ms0_10 t) fullShare ((dats m hH 0 c).after 10 t) from by
      unfold Dat.leavesExact; rw [liveAt0_10 t], after0_10]
        rw [show (dats m hH 0 c).leavesExact 11 t = owns (c : Thread nD τ) (ms0_11 t) fullShare ((dats m hH 0 c).after 11 t) from by
      unfold Dat.leavesExact; rw [liveAt0_11 t], after0_11]
        rw [show (dats m hH 0 c).leavesExact 12 t = owns (c : Thread nD τ) (ms0_12 t) fullShare ((dats m hH 0 c).after 12 t) from by
      unfold Dat.leavesExact; rw [liveAt0_12 t], after0_12]
        rw [show (dats m hH 0 c).leavesExact 13 t = owns (c : Thread nD τ) (ms0_13 t) fullShare ((dats m hH 0 c).after 13 t) from by
      unfold Dat.leavesExact; rw [liveAt0_13_F t (fun h => h0 ((hcond0_0 t).mp h)) ((hcond0_2 t).mpr h2)], after0_13]
        by_cases hz : t.val = 0
        · exfalso; have hN : t.val < 8 := lt_of_lt_of_eq t.isLt (show cfg0.N = 8 from N_0); omega
        · rw [PhiS_castSucc m hH c t, PhiS_pos m hH c _ _ hz]
          rw [outsAt0_F m hH c t h0 h1 h2]
          unfold out0_F_13 sout0_F_0 sout0_F_1 sout0_F_2 sout0_F_3 sout0_F_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_F c (grid0.coords t) _ _ _ _ _ _ _ _ _ _ _ _ _ _ _ _ _ _ _ _ _ _ _ _ _ _ _ _ _ _ _ _ _ _ _ _ _ _ (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ h1 (Hyps.c0 hH c t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexists _; iexact H13
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, ⟨%e13, H13⟩, HS0, HS1, ⟨%es2, HS2⟩, ⟨%es3, HS3⟩, HS4⟩
          isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_F_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_F_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          unfold owns; iexists _; isplitr
          swap; · iexact H13
          ipureintro; exact View.read_writes_of_cover _ _ _ _ _ (cover0_F_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · rw [show (dats m hH 0 c).leavesExact 0 t = owns (c : Thread nD τ) (ms0_0 t) fullShare ((dats m hH 0 c).after 0 t) from by
      unfold Dat.leavesExact; rw [liveAt0_0 t], after0_0]
        rw [show (dats m hH 0 c).leavesExact 1 t = owns (c : Thread nD τ) (ms0_1 t) fullShare ((dats m hH 0 c).after 1 t) from by
      unfold Dat.leavesExact; rw [liveAt0_1 t], after0_1]
        rw [show (dats m hH 0 c).leavesExact 2 t = owns (c : Thread nD τ) (ms0_2 t) fullShare ((dats m hH 0 c).after 2 t) from by
      unfold Dat.leavesExact; rw [liveAt0_2 t], after0_2]
        rw [show (dats m hH 0 c).leavesExact 3 t = owns (c : Thread nD τ) (ms0_3 t) fullShare ((dats m hH 0 c).after 3 t) from by
      unfold Dat.leavesExact; rw [liveAt0_3 t], after0_3]
        rw [show (dats m hH 0 c).leavesExact 4 t = owns (c : Thread nD τ) (ms0_4 t) fullShare ((dats m hH 0 c).after 4 t) from by
      unfold Dat.leavesExact; rw [liveAt0_4 t], after0_4]
        rw [show (dats m hH 0 c).leavesExact 5 t = owns (c : Thread nD τ) (ms0_5 t) fullShare ((dats m hH 0 c).after 5 t) from by
      unfold Dat.leavesExact; rw [liveAt0_5 t], after0_5]
        rw [show (dats m hH 0 c).leavesExact 6 t = owns (c : Thread nD τ) (ms0_6 t) fullShare ((dats m hH 0 c).after 6 t) from by
      unfold Dat.leavesExact; rw [liveAt0_6 t], after0_6]
        rw [show (dats m hH 0 c).leavesExact 7 t = owns (c : Thread nD τ) (ms0_7 t) fullShare ((dats m hH 0 c).after 7 t) from by
      unfold Dat.leavesExact; rw [liveAt0_7 t], after0_7]
        rw [show (dats m hH 0 c).leavesExact 8 t = owns (c : Thread nD τ) (ms0_8 t) fullShare ((dats m hH 0 c).after 8 t) from by
      unfold Dat.leavesExact; rw [liveAt0_8 t], after0_8]
        rw [show (dats m hH 0 c).leavesExact 9 t = owns (c : Thread nD τ) (ms0_9 t) fullShare ((dats m hH 0 c).after 9 t) from by
      unfold Dat.leavesExact; rw [liveAt0_9 t], after0_9]
        rw [show (dats m hH 0 c).leavesExact 10 t = owns (c : Thread nD τ) (ms0_10 t) fullShare ((dats m hH 0 c).after 10 t) from by
      unfold Dat.leavesExact; rw [liveAt0_10 t], after0_10]
        rw [show (dats m hH 0 c).leavesExact 11 t = owns (c : Thread nD τ) (ms0_11 t) fullShare ((dats m hH 0 c).after 11 t) from by
      unfold Dat.leavesExact; rw [liveAt0_11 t], after0_11]
        rw [show (dats m hH 0 c).leavesExact 12 t = owns (c : Thread nD τ) (ms0_12 t) fullShare ((dats m hH 0 c).after 12 t) from by
      unfold Dat.leavesExact; rw [liveAt0_12 t], after0_12]
        rw [Dat.leavesExact_idle (dats m hH 0 c) 13 t (idleAt0_13_D t (fun h => h0 ((hcond0_0 t).mp h)) (fun h => h2 ((hcond0_2 t).mp h))) (noFlush0_13_D t (fun h => h0 ((hcond0_0 t).mp h)) (fun h => h2 ((hcond0_2 t).mp h)))]
        by_cases hz : t.val = 0
        · exfalso; have hN : t.val < 8 := lt_of_lt_of_eq t.isLt (show cfg0.N = 8 from N_0); omega
        · rw [PhiS_castSucc m hH c t, PhiS_pos m hH c _ _ hz]
          rw [outsAt0_D m hH c t h0 h1 h2]
          unfold sout0_D_0 sout0_D_1 sout0_D_2 sout0_D_3 sout0_D_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
          iapply ((kernelRun0_D c (grid0.coords t) _ _ _ _ _ _ _ _ _ _ _ _ _ _ _ _ _ _ _ _ _ _ _ _ _ _ _ _ _ _ _ _ _ _ _ _ _ _ (fun h => h0 ((hcond0_0 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ h1 (Hyps.c0 hH c t)).2.2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, H12, H13, HS0, HS1, ⟨%es2, HS2⟩, ⟨%es3, HS3⟩, HS4⟩
          isplitl [HS0 HS1 HS2 HS3 HS4 Hg]
          · isplitl [HS0 HS1 HS2 HS3 HS4]
            · isplitl [HS0]
              · iexact HS0
              isplitl [HS1]
              · iexact HS1
              isplitl [HS2]
              · unfold owns; iexists _; isplitr
                swap; · iexact HS2
                ipureintro; exact View.read_writes_of_cover _ _ _ _ _ (scover0_D_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_D_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          iexists _; iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ := fun t => by
  rw [bigSep_W0, bigSep_W0, defs₀_row]
  exact triple_restated (sound_body m hH c t) rfl .rfl fun _ => .rfl

/-- What the launch hands the region (`ΦA`) is the invariant before the first point. -/
theorem hin (hH : Hyps m) (c : Dev nD) : Pipeline.ΦA spec0 c ⊢ (dats m hH 0 c).Φ 0 := by
  rw [show (dats m hH 0 c).Φ 0 = PhiS m hH c 0 (Nat.zero_le _) from rfl, PhiS_zero m hH c 0 _ rfl]
  try exact Idealize.SL.BI.Entails.refl _

/-- After any point but the first the invariant gives `ΦA` back: the carried scratch's named contents are forgotten. -/
theorem Phi_out (hH : Hyps m) (c : Dev nD) (t : Fin (cfg0.N + 1)) (ht : t.val ≠ 0) : (dats m hH 0 c).Φ t ⊢ Pipeline.ΦA spec0 c := by
  rw [show (dats m hH 0 c).Φ t = PhiS m hH c t.val (Nat.le_of_lt_succ t.isLt) from rfl, PhiS_pos m hH c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (hH : Hyps m) (c : Dev nD) : (dats m hH 0 c).Φ (Fin.last cfg0.N) ⊢ Pipeline.ΦA spec0 c :=
  Phi_out m hH c _ (by rw [Fin.val_last]; have : cfg0.N = 8 := N_0; omega)

/-! ## The run and the frame -/

set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.FramePost cfgs (dats m hH) 0 (V m)) r ∧ r.2.sem = fun _ => 0) :=
  Pipeline.θ_run_frame_track (Q' := _) cfgs (dats m hH) (0 : Fin 1) launch0 defs₀ Variants.none m ρ main
    (hbody := fun c => (body_obligation m hH c).loose) (hshare := fun c => (dats m hH 0 c).share_full fun _ => rfl)
    (howed := fun _ _ => rfl) (V := V m) (hmain := hmain m Variants.none) (hA := A_eq m hH) (hin := hin m hH) (hout := hout m hH)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hH : Hyps m) : θ_run defs (onTc (τ := τ) (main (F := F))) (s₀ m ρ) (Pipeline.FramePost cfgs (dats m hH) 0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m hH) (A_eq m hH) (run_main m ρ hH)

/-- The frame, at any values, under the side conditions the body assumes at every point: the program runs, its argument
    arrays end unchanged, and every semaphore counter ends at zero. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hH) ((θ_run defs _ _).mono (fun _ h => h.2) (run_main_quiescent m ρ hH))

end Cert.Launch
-- ==== Proof.Frames.lean ====
/- The claims that say nothing of a value: each program runs, leaves its arguments alone and its semaphores at zero; and
   the idealization is the kernel's own text. -/
module

public import proofs.«01_k».proof.Proof.Bounds
public import proofs.«01_k».proof.Proof.Launch
public import proofs.«01_k».proof.Proof.Gen.Kernel
public import proofs.«01_k».proof.Proof.Gen.ReferenceIdeal.Run
public import Idealize.ShloMosaic.Lib.Claim
public import proofs.«01_k».proof.Defs

@[expose] public section

set_option maxRecDepth 16384
set_option maxHeartbeats 1000000

noncomputable section

namespace Cert.Proof

open Idealize.ShloMosaic Idealize.ShloMosaic.TcCoe Idealize.SL.Sem

/-- The kernel and its idealization have one body and one staging, name for name: their tables of bodies are equal. -/
theorem same_bodies : Cert.Kernel.defs₀ (F := Bits) = Cert.KernelIdeal.defs₀ (F := Bits) := by
  funext p ℓ a
  unfold Cert.Kernel.defs₀ Cert.KernelIdeal.defs₀
  match p with
  | .tc =>
    match ℓ, a with
    | ⟨0, _⟩, (t, s) => rfl
    | ⟨n + 1, h⟩, _ => exact absurd h (Nat.not_lt.2 (Nat.le_add_left _ _))
  | .scScalar _ => rfl
  | .scVector _ _ => rfl

/-- The kernel's frame, from the first length's being positive: the frame of the idealization's text holds at any values, so at the
    printed ones too, where that text is the kernel's. -/
theorem frame_kernel : Cert.quiescent_Kernel := by
  intro m ρ h
  have run := Cert.Launch.frame (F := Bits) m ρ (Cert.Bounds.hyps_ideal (F := Bits) m fun c => Cert.Bounds.first_of (h c))
  have key : ∀ D, D = Cert.KernelIdeal.defs₀ (F := Bits) →
    θ_run (Pipeline.defs Cert.KernelIdeal.pcfgs D) (onTc (τ := Cert.KernelIdeal.τ) (Cert.KernelIdeal.main (F := Bits))) ⟨m, fun _ => 0, ρ⟩ (fun r => (∀ c : Dev Cert.KernelIdeal.nD,
      r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)
      ∧ r.2.mem (c.tc.loc Cert.KernelIdeal.main_arg5) = m (c.tc.loc Cert.KernelIdeal.main_arg5)
      ∧ r.2.mem (c.tc.loc Cert.KernelIdeal.main_arg6) = m (c.tc.loc Cert.KernelIdeal.main_arg6)
      ∧ r.2.mem (c.tc.loc Cert.KernelIdeal.main_arg7) = m (c.tc.loc Cert.KernelIdeal.main_arg7)
      ∧ r.2.mem (c.tc.loc Cert.KernelIdeal.main_arg8) = m (c.tc.loc Cert.KernelIdeal.main_arg8)
      ∧ r.2.mem (c.tc.loc Cert.KernelIdeal.main_arg9) = m (c.tc.loc Cert.KernelIdeal.main_arg9)
      ∧ r.2.mem (c.tc.loc Cert.KernelIdeal.main_arg10) = m (c.tc.loc Cert.KernelIdeal.main_arg10)
      ∧ r.2.mem (c.tc.loc Cert.KernelIdeal.main_arg11) = m (c.tc.loc Cert.KernelIdeal.main_arg11))
      ∧ r.2.sem = fun _ => 0) := by
    rintro _ rfl
    exact run
  exact key _ same_bodies

/-- The idealization's frame, from the first length's being positive. -/
theorem frame_ideal : Cert.quiescent_KernelIdeal := fun m ρ h =>
  Cert.Launch.frame m ρ (Cert.Bounds.hyps_ideal m fun c => Cert.Bounds.first_of (h c))

/-- The reference's frame: the generated run's last conjuncts; it has no semaphore. -/
theorem frame_reference : Cert.quiescent_ReferenceIdeal := fun m ρ _ =>
  (θ_run Cert.ReferenceIdeal.defs _ _).mono (fun r h => And.intro (fun c => (h c).2)
      (Idealize.ShloMosaic.sem_eq_zero_of_no_sems (by decide) r.2))
    (Cert.ReferenceIdeal.Value.run (F := Ideal) m ρ)

/-- The idealization rewrote no operation. -/
theorem preserves : Cert.preserves_Kernel_KernelIdeal := trivial

end Cert.Proof
-- ==== Proof.FramesFinite.lean ====
/- The two frames that go with the value claim: the idealization's and the reference's, from that claim's precondition. -/
module

public import proofs.«01_k».proof.Proof.Finite
public import proofs.«01_k».proof.Proof.Frames

@[expose] public section

noncomputable section

namespace Cert.Proof

open Idealize.ShloMosaic Idealize.ShloMosaic.TcCoe Idealize.SL.Sem

/-- The idealization's frame, from the second precondition. -/
theorem frame_ideal_finite : Cert.quiescent_KernelIdeal_pre_steps_finite := fun m ρ h =>
  Cert.Launch.frame m ρ (Cert.Bounds.hyps_ideal m fun c => (Cert.Bounds.given_of (h c)).pos)

/-- The same under the second precondition, which it does not need. -/
theorem frame_reference_finite : Cert.quiescent_ReferenceIdeal_pre_steps_finite := fun m ρ _ =>
  frame_reference m ρ trivial

end Cert.Proof
-- ==== Proof.Trip.lean ====
/- One trip of the body's loops as steps of the recurrence. A state holds the hidden rows and the running sums of the
   two halves of the batch; a step takes the sixteen pre-activation rows of one position and the position. A trip of
   the loop over groups is eight steps; a trip of the loop over the rest is one. -/
module

public import proofs.«01_k».proof.Proof.Gen.KernelIdeal.Loops

@[expose] public section

set_option maxRecDepth 16384

noncomputable section

namespace Cert.Trip

open Idealize.ShloMosaic Idealize.ShloMosaic.TcCoe Cert.KernelIdeal Cert.KernelIdeal.Gen

variable {F : FTy → Type} [FloatOps F]

/-- What the loops carry: the hidden rows of the batch's two halves, then their running sums. -/
abbrev State (F : FTy → Type) := FVec F S8x64 .f32 × FVec F S8x64 .f32 × FVec F S8x64 .f32 × FVec F S8x64 .f32

/-- The new hidden rows of one half: its rows of the pre-activation plus the recurrent product, under tanh. -/
def hid (w : Vec F S64x64 .f32) (a h : FVec F S8x64 .f32) : FVec F S8x64 .f32 :=
  tanh (addf a (matmul dot_S8x64_S64x64_S8x64_1_0_0_1_n_n none h w (constant S8x64 .f32 0x00000000#32)))

/-- The new running sum of one half: the hidden row is added where the position lies below the row's length. -/
def tally (l : IVec S8x1 32) (p : BitVec 32) (h s : FVec F S8x64 .f32) : FVec F S8x64 .f32 :=
  addf s (select (broadcastTo S8x64 (shapeCast S8x1 (cmpi .slt (broadcast S8x1 p) l) shapeCasts_S8x1_S8x1) broadcasts_S8x1_S8x64)
    h (broadcast S8x64 (Scalar.ofBits .f32 0x00000000#32)))

/-- One step of the recurrence on the carried state. -/
def step (w : Vec F S64x64 .f32) (l : IVec S16x1 32) (a : Vec F S16x64 .f32) (p : BitVec 32) (s : State F) : State F :=
  (hid w (extractStridedSlice S8x64 ![0, 0] a slices_S16x64_o0_0_S8x64) s.1,
    hid w (extractStridedSlice S8x64 ![8, 0] a slices_S16x64_o8_0_S8x64) s.2.1,
    tally (extractStridedSlice S8x1 ![0, 0] l slices_S16x1_o0_0_S8x1) p
      (hid w (extractStridedSlice S8x64 ![0, 0] a slices_S16x64_o0_0_S8x64) s.1) s.2.2.1,
    tally (extractStridedSlice S8x1 ![8, 0] l slices_S16x1_o8_0_S8x1) p
      (hid w (extractStridedSlice S8x64 ![8, 0] a slices_S16x64_o8_0_S8x64) s.2.1) s.2.2.2)

/-- The sixteen rows a step loads from the scratch. -/
def rows (b : Memref sig .tc .vmem S4096x64 .f32) (X : BufTy.Contents (Elt F) b.view.ty) (o : Fin 2 → ℕ)
    (h : ∀ a, o a + S16x64.size a ≤ S4096x64.size a) : Vec F S16x64 .f32 :=
  b.view.readAt (Elt F) (Rect.unit (s := S4096x64) o S16x64.size h).toLoadRect X

/-- The position the `r`-th step of group `k` compares with the lengths. -/
def at8 (v3 : BitVec 32) (k : ℕ) (r : BitVec 32) : BitVec 32 :=
  Scalar.addi v3 (Scalar.addi (Scalar.muli (Scf.iv 0#32 1#32 k) 8#32) r)
/-- The position the `k`-th single step compares with the lengths. -/
def at1 (v3 v32 : BitVec 32) (k : ℕ) : BitVec 32 :=
  Scalar.addi v3 (Scalar.addi (Scalar.muli v32 8#32) (Scf.iv 0#32 1#32 k))

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (𝒱 : Variants) (c : Dev nD) (bd : Option 𝒱.V) (i : grid0.Coords) (v3 : BitVec 32) (v4 : Elt F .i32) (k0_hw1 : k0_chk1 i v4)
  (v10 : Vec F S64x64 .f32) (v12 : IVec S16x1 32) (X : BufTy.Contents (Elt F) arg19.view.ty)

/-- A trip over a group is its eight steps. -/
theorem group (k : Fin (k0_t1_loop i v4).trips) (acc : State F) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v4 k0_hw1 v10 v12 X k acc
    = (step v10 v12 (rows arg19 X (k0_off1 i v4 k 7#32) (k0_off1_inb i v4 k0_hw1 k 7)) (at8 v3 k 7#32)
      (step v10 v12 (rows arg19 X (k0_off1 i v4 k 6#32) (k0_off1_inb i v4 k0_hw1 k 6)) (at8 v3 k 6#32)
      (step v10 v12 (rows arg19 X (k0_off1 i v4 k 5#32) (k0_off1_inb i v4 k0_hw1 k 5)) (at8 v3 k 5#32)
      (step v10 v12 (rows arg19 X (k0_off1 i v4 k 4#32) (k0_off1_inb i v4 k0_hw1 k 4)) (at8 v3 k 4#32)
      (step v10 v12 (rows arg19 X (k0_off1 i v4 k 3#32) (k0_off1_inb i v4 k0_hw1 k 3)) (at8 v3 k 3#32)
      (step v10 v12 (rows arg19 X (k0_off1 i v4 k 2#32) (k0_off1_inb i v4 k0_hw1 k 2)) (at8 v3 k 2#32)
      (step v10 v12 (rows arg19 X (k0_off1 i v4 k 1#32) (k0_off1_inb i v4 k0_hw1 k 1)) (at8 v3 k 1#32)
      (step v10 v12 (rows arg19 X (k0_off1 i v4 k 0#32) (k0_off1_inb i v4 k0_hw1 k 0)) (at8 v3 k 0#32)
      acc)))))))) := by
  unfold tripR_k0_t1 trip_k0_t1
  rfl

/-- A trip over the rest is one step. -/
theorem single (v32 : BitVec 32) (k : Fin (k0_t3_loop i v4).trips) (acc : State F) :
    tripR_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3 v4 k0_hw1 v10 v12 v32 X k acc
    = step v10 v12 (rows arg19 X (k0_off3 i v4 k) (k0_off3_inb i v4 k0_hw1 k)) (at1 v3 v32 k) acc := by
  unfold tripR_k0_t3 trip_k0_t3
  rfl

end Cert.Trip
-- ==== Proof.Model.lean ====
/- The recurrence in coordinates: the hidden rows of a batch from its rows of pre-activations, and the running sums of
   the hidden rows over the positions below each row's length. A carried state of the kernel holds the rows of position
   `n` when its four blocks read them at the two halves of the batch; one step of the kernel's loops takes a state that
   holds position `n` to one that holds position `n + 1`. -/
module

public import proofs.«01_k».proof.Proof.Trip
public import Idealize.ShloMosaic.Lib.Pointwise

@[expose] public section

set_option maxRecDepth 16384

noncomputable section

namespace Cert.Model

open Idealize.ShloMosaic Cert.KernelIdeal Cert.Trip

/-- The hidden row of batch row `b` after `n` positions: zero, then tanh of the pre-activation plus the recurrent product. -/
def hid (A : ℕ → Fin 16 → Fin 64 → EReal) (w : Vec Ideal S64x64 .f32) : ℕ → Fin 16 → Fin 64 → EReal
  | 0 => fun _ _ => 0
  | n + 1 => fun b j => Ideal.tanh (A n b j + ∑ k : Fin 64, hid A w n b k * w (ix2 k j))

/-- The sum of batch row `b`'s hidden rows over the first `n` positions, those below its length. -/
def tot (A : ℕ → Fin 16 → Fin 64 → EReal) (w : Vec Ideal S64x64 .f32) (l : Fin 16 → ℤ) (n : ℕ) (b : Fin 16) (j : Fin 64) : EReal :=
  ∑ τ ∈ Finset.range n, if (τ : ℤ) < l b then hid A w (τ + 1) b j else 0

/-- Row `i` of the batch's lower half … -/
def lo (i : Fin 8) : Fin 16 := ⟨i.val, by omega⟩
/-- … and of its upper half. -/
def hi (i : Fin 8) : Fin 16 := ⟨8 + i.val, by omega⟩

/-- A carried state holds position `n`. -/
structure Holds (A : ℕ → Fin 16 → Fin 64 → EReal) (w : Vec Ideal S64x64 .f32) (l : IVec S16x1 32) (n : ℕ) (s : State Ideal) : Prop where
  h0 : ∀ i j, s.1 (ix2 i j) = hid A w n (lo i) j
  h1 : ∀ i j, s.2.1 (ix2 i j) = hid A w n (hi i) j
  s0 : ∀ i j, s.2.2.1 (ix2 i j) = tot A w (fun b => (l (ix2 b 0)).toInt) n (lo i) j
  s1 : ∀ i j, s.2.2.2 (ix2 i j) = tot A w (fun b => (l (ix2 b 0)).toInt) n (hi i) j

theorem tot_succ (A : ℕ → Fin 16 → Fin 64 → EReal) (w : Vec Ideal S64x64 .f32) (l : Fin 16 → ℤ) (n : ℕ) (b : Fin 16) (j : Fin 64) :
    tot A w l (n + 1) b j = tot A w l n b j + if (n : ℤ) < l b then hid A w (n + 1) b j else 0 := by
  unfold tot; rw [Finset.sum_range_succ]

/-- The new hidden rows of one half, read at an index. -/
theorem hid_apply (w : Vec Ideal S64x64 .f32) (a h : FVec Ideal S8x64 .f32) (i : Fin 8) (j : Fin 64) :
    Trip.hid w a h (ix2 i j) = Ideal.tanh (a (ix2 i j) + ∑ k : Fin 64, h (ix2 i k) * w (ix2 k j)) := by
  unfold Trip.hid
  pointwise

/-- The new running sum of one half, read at an index. -/
theorem tally_apply (l : IVec S8x1 32) (p : BitVec 32) (h s : FVec Ideal S8x64 .f32) (i : Fin 8) (j : Fin 64) :
    Trip.tally l p h s (ix2 i j) = s (ix2 i j) + if p.toInt < (l (ix2 i 0)).toInt then h (ix2 i j) else 0 := by
  unfold Trip.tally
  pointwise
  congr 1
  by_cases e : p.toInt < (l (ix2 i 0)).toInt <;> simp [Scalar.select, IntOp.cmpi, BitVec.slt, e]

/-- The lower eight rows of a block of sixteen … -/
theorem slice_lo {n : ℕ} {α : Type} (a : (⟨2, ![16, n]⟩ : Shape).Idx → α) (h : Shape.Slices (s := ⟨2, ![16, n]⟩) ![0, 0] ⟨2, ![8, n]⟩) (i : Fin 8) (j : Fin n) :
    extractStridedSlice ⟨2, ![8, n]⟩ ![0, 0] a h (ix2 i j) = a (ix2 (lo i) j) := by
  exact extractStridedSlice_apply _ _ _ _ _ (fun a => match a with | ⟨0, _⟩ => (Nat.zero_add _).symm | ⟨1, _⟩ => (Nat.zero_add _).symm)
/-- … and the upper eight. -/
theorem slice_hi {n : ℕ} {α : Type} (a : (⟨2, ![16, n]⟩ : Shape).Idx → α) (h : Shape.Slices (s := ⟨2, ![16, n]⟩) ![8, 0] ⟨2, ![8, n]⟩) (i : Fin 8) (j : Fin n) :
    extractStridedSlice ⟨2, ![8, n]⟩ ![8, 0] a h (ix2 i j) = a (ix2 (hi i) j) := by
  exact extractStridedSlice_apply _ _ _ _ _ (fun a => match a with | ⟨0, _⟩ => rfl | ⟨1, _⟩ => (Nat.zero_add _).symm)

/-- One step of the kernel's loops: from position `n` to position `n + 1`. -/
theorem Holds.step {A : ℕ → Fin 16 → Fin 64 → EReal} {w : Vec Ideal S64x64 .f32} {l : IVec S16x1 32} {n : ℕ} {s : State Ideal}
    (hs : Holds A w l n s) (a : Vec Ideal S16x64 .f32) (ha : ∀ b j, a (ix2 b j) = A n b j) (p : BitVec 32) (hp : p.toInt = n) :
    Holds A w l (n + 1) (Trip.step w l a p s) := by
  have e0 : ∀ i j, (Trip.step w l a p s).1 (ix2 i j) = hid A w (n + 1) (lo i) j := fun i j => by
    show Trip.hid _ _ _ _ = _
    rw [hid_apply, slice_lo, ha]; simp only [hs.h0]; rfl
  have e1 : ∀ i j, (Trip.step w l a p s).2.1 (ix2 i j) = hid A w (n + 1) (hi i) j := fun i j => by
    show Trip.hid _ _ _ _ = _
    rw [hid_apply, slice_hi, ha]; simp only [hs.h1]; rfl
  refine ⟨e0, e1, fun i j => ?_, fun i j => ?_⟩
  · show Trip.tally _ _ (Trip.step w l a p s).1 _ _ = _
    rw [tally_apply, e0, hs.s0, slice_lo, hp, tot_succ]
  · show Trip.tally _ _ (Trip.step w l a p s).2.1 _ _ = _
    rw [tally_apply, e1, hs.s1, slice_hi, hp, tot_succ]

end Cert.Model
-- ==== Proof.Chunk.lean ====
/- The four loops of a grid point: they take a carried state that holds the chunk's first position to one that holds the
   position after the chunk's last valid step, when the scratch holds the chunk's rows of pre-activations. -/
module

public import proofs.«01_k».proof.Proof.Model
public import proofs.«01_k».proof.Proof.Steps

@[expose] public section

set_option maxRecDepth 16384

noncomputable section

namespace Cert.Chunk

open Idealize.ShloMosaic Idealize.ShloMosaic.TcCoe Cert.KernelIdeal Cert.KernelIdeal.Gen Cert.Trip Cert.Model Cert.Steps

/-- The position a group's step compares with the lengths, as a number. -/
theorem at8_eq (a k r : ℕ) (ha : a < 8) (hk : k < 32) (hr : r < 8) :
    (at8 (Scalar.muli (BitVec.ofNat 32 a) 256#32) k (BitVec.ofNat 32 r)).toInt = ((256 * a + 8 * k + r : ℕ) : ℤ) := by
  have : ∀ (a : Fin 8) (k : Fin 32) (r : Fin 8), (at8 (Scalar.muli (BitVec.ofNat 32 a.val) 256#32) k.val (BitVec.ofNat 32 r.val)).toInt
      = ((256 * a.val + 8 * k.val + r.val : ℕ) : ℤ) := by decide +kernel
  exact this ⟨a, ha⟩ ⟨k, hk⟩ ⟨r, hr⟩

/-- The position a single step compares with the lengths, as a number. -/
theorem at1_eq (a : ℕ) (ha : a < 8) (w : BitVec 32) (hw : w.toNat ≤ 256) (k : ℕ) (hk : k < 8) :
    (at1 (Scalar.muli (BitVec.ofNat 32 a) 256#32) (eighth w) k).toInt = ((256 * a + 8 * (w.toNat / 8) + k : ℕ) : ℤ) := by
  rw [eighth_eq w hw]
  have : ∀ (a : Fin 8) (q : Fin 33) (k : Fin 8), (at1 (Scalar.muli (BitVec.ofNat 32 a.val) 256#32) (BitVec.ofNat 32 q.val) k.val).toInt
      = ((256 * a.val + 8 * q.val + k.val : ℕ) : ℤ) := by decide +kernel
  exact this ⟨a, ha⟩ ⟨w.toNat / 8, by omega⟩ ⟨k, hk⟩

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (𝒱 : Variants) (c : Dev nD) (bd : Option 𝒱.V) (i : grid0.Coords) (v4 : BitVec 32) (k0_hw1 : k0_chk1 i v4)
  (w : Vec Ideal S64x64 .f32) (l : IVec S16x1 32) (X : BufTy.Contents (Elt Ideal) arg19.view.ty)
  (A : ℕ → Fin 16 → Fin 64 → EReal)

/-- The number of steps of the point. -/
def count (i : grid0.Coords) (v4 : BitVec 32) : ℕ := (clip (BitVec.ofNat 32 (i 0).val) v4).toNat

/-- The scratch holds the point's rows of pre-activations, sixteen rows per position. -/
def Filled (i : grid0.Coords) (v4 : BitVec 32) (x : Vec Ideal S4096x64 .f32) : Prop :=
  ∀ (n : ℕ), n < count i v4 → ∀ (b : Fin 16) (r : Fin 4096), r.val = n * 16 + b.val → ∀ j : Fin 64, x (ix2 r j) = A (256 * (i 0).val + n) b j

theorem count_le (i : grid0.Coords) (v4 : BitVec 32) : count i v4 ≤ 256 := clip_le _ _

variable {A X}

/-- Sixteen rows loaded from a filled scratch at position `n`'s first row are that position's pre-activations. -/
theorem rows_eq (hX : Filled A i v4 (arg19.view.read (Elt Ideal) X)) (o : Fin 2 → ℕ) (h : ∀ a, o a + S16x64.size a ≤ S4096x64.size a)
    (n : ℕ) (hn : n < count i v4) (h0 : o 0 = n * 16) (h1 : o 1 = 0) (b : Fin 16) (j : Fin 64) :
    rows arg19 X o h (ix2 b j) = A (256 * (i 0).val + n) b j := by
  unfold rows
  rw [View.readAt_apply]
  have hc := count_le i v4
  have e : (Rect.unit (s := S4096x64) o S16x64.size h).toLoadRect.idx (ix2 b j) = ix2 (⟨n * 16 + b.val, by omega⟩ : Fin 4096) j := by
    funext a
    refine Fin.ext ?_
    match a with
    | ⟨0, _⟩ => show o 0 + 1 * b.val = n * 16 + b.val; omega
    | ⟨1, _⟩ => show o 1 + 1 * j.val = j.val; omega
  rw [e]
  exact hX n hn b _ rfl j

variable {init : State Ideal}

/-- The loop over the groups: from the chunk's first position, after `k` trips, position `8k`. -/
theorem groups_hold (hX : Filled A i v4 (arg19.view.read (Elt Ideal) X)) (hi : Holds A w l (256 * (i 0).val) init) (k : ℕ)
    (hk : k ≤ (k0_t1_loop i v4).trips) :
    Holds A w l (256 * (i 0).val + 8 * k)
      (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l X init k) := by
  induction k with
  | zero => exact hi
  | succ k ih =>
    have ha : (i 0).val < 8 := (i 0).isLt
    have hc := count_le i v4
    have ht : (k0_t1_loop i v4).trips = count i v4 / 8 := (groups_ok _ (clip_le _ _)).2
    have h8 : 8 * k + 8 ≤ count i v4 := by omega
    rw [st_k0_t1_succ (k := ⟨k, hk⟩), Trip.group]
    have st : ∀ (r : ℕ) (hr : r < 8) (h : ∀ a, k0_off1 i v4 ⟨k, hk⟩ (BitVec.ofNat 32 r) a + S16x64.size a ≤ S4096x64.size a) (s : State Ideal),
        Holds A w l (256 * (i 0).val + 8 * k + r) s → Holds A w l (256 * (i 0).val + 8 * k + (r + 1))
          (step w l (rows arg19 X (k0_off1 i v4 ⟨k, hk⟩ (BitVec.ofNat 32 r)) h) (at8 (Scalar.muli (BitVec.ofNat 32 (i 0).val) 256#32) k (BitVec.ofNat 32 r)) s) := by
      intro r hr h s hs
      refine hs.step _ (fun b j => ?_) _ (at8_eq _ _ _ ha (by omega) hr)
      rw [Nat.add_assoc]
      refine rows_eq arg19 i v4 hX _ _ (8 * k + r) (by omega) ?_ rfl b j
      show (rowG k (BitVec.ofNat 32 r)).toNat = _
      rw [rowG_eq _ (by omega) _ hr]; ring
    exact st 7 (by omega) _ _ (st 6 (by omega) _ _ (st 5 (by omega) _ _ (st 4 (by omega) _ _ (st 3 (by omega) _ _ (st 2 (by omega) _ _
      (st 1 (by omega) _ _ (st 0 (by omega) _ _ (ih (by omega)))))))))

/-- The loop over the rest: from the position after the groups, after `k` trips, `k` positions on. -/
theorem singles_hold (hX : Filled A i v4 (arg19.view.read (Elt Ideal) X))
    (hi : Holds A w l (256 * (i 0).val + 8 * (count i v4 / 8)) init) (k : ℕ) (hk : k ≤ (k0_t3_loop i v4).trips) :
    Holds A w l (256 * (i 0).val + 8 * (count i v4 / 8) + k)
      (st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l
        (eighth (clip (BitVec.ofNat 32 (i 0).val) v4)) X init k) := by
  induction k with
  | zero => exact hi
  | succ k ih =>
    have ha : (i 0).val < 8 := (i 0).isLt
    have hc := count_le i v4
    have ht : (k0_t3_loop i v4).trips = count i v4 % 8 := (singles_ok _ (clip_le _ _)).2
    rw [st_k0_t3_succ (k := ⟨k, hk⟩), Trip.single]
    refine (ih (by omega)).step _ (fun b j => ?_) _ (at1_eq _ ha _ (clip_le _ _) _ (by omega))
    rw [Nat.add_assoc]
    refine rows_eq arg19 i v4 hX _ _ (8 * (count i v4 / 8) + k) (by omega) ?_ rfl b j
    show (rowS (clip (BitVec.ofNat 32 (i 0).val) v4) k).toNat = _
    rw [rowS_eq _ (clip_le _ _) _ (by omega)]; unfold count; ring

/-- All four loops: from the chunk's first position to the position after its last valid step. -/
theorem loops_hold (v41 v15 : BitVec 32) (hX : Filled A i v4 (arg19.view.read (Elt Ideal) X)) (hi : Holds A w l (256 * (i 0).val) init) :
    Holds A w l (256 * (i 0).val + count i v4)
      (st_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v15 (eighth (clip (BitVec.ofNat 32 (i 0).val) v4)) X
        (st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l (eighth (clip (BitVec.ofNat 32 (i 0).val) v4)) X
          (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v41 X
            (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l X init
              (k0_t1_loop i v4).trips) (k0_t2_loop i v4).trips) (k0_t3_loop i v4).trips) (k0_t4_loop i v4).trips) := by
  have t1 : (k0_t1_loop i v4).trips = count i v4 / 8 := (groups_ok _ (clip_le _ _)).2
  have t2 : (k0_t2_loop i v4).trips = 0 := (groupsLeft_ok _ (clip_le _ _)).2
  have t3 : (k0_t3_loop i v4).trips = count i v4 % 8 := (singles_ok _ (clip_le _ _)).2
  have t4 : (k0_t4_loop i v4).trips = 0 := (singlesLeft_ok _ (clip_le _ _)).2
  have g := groups_hold arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd i v4 k0_hw1 w l hX hi _ le_rfl
  rw [t1] at g
  rw [t4, t2, st_k0_t4_zero, st_k0_t2_zero, t1]
  have e : 256 * (i 0).val + count i v4 = 256 * (i 0).val + 8 * (count i v4 / 8) + (k0_t3_loop i v4).trips := by rw [t3]; omega
  rw [e]
  refine singles_hold arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd i v4 k0_hw1 w l hX ?_ (k0_t3_loop i v4).trips (le_refl _)
  exact g

end Cert.Chunk
-- ==== Proof.Blocks.lean ====
/- What one grid point computes around its loops, read at an index: the product of the weights and the product of the
   biases (the first point), the rows of pre-activations (every point with valid steps), the halves of the carried
   blocks, and the final linear map of the running sums divided by the lengths (the last point). -/
module

public import proofs.«01_k».proof.Proof.Model

@[expose] public section

set_option maxRecDepth 16384

noncomputable section

namespace Cert.Blocks

open Idealize.ShloMosaic Cert.KernelIdeal Cert.KernelIdeal.Gen Cert.Model

/-- The product of the three weight matrices at row `k`, column `j`. -/
theorem weights (x3 : Vec Ideal S512x512 .f32) (x4 : Vec Ideal S512x64 .f32) (x5 : Vec Ideal S64x64 .f32) (k : Fin 512) (j : Fin 64) :
    k0_pay18 x3 x4 x5 (ix2 k j) = ∑ q : Fin 64, (∑ p : Fin 512, x3 (ix2 k p) * x4 (ix2 p q)) * x5 (ix2 q j) := by
  unfold k0_pay18
  rw [shapeCast_self]
  pointwise

/-- The biases carried through the weights, at column `j`. -/
theorem biases (x7 : Vec Ideal S1x512 .f32) (x4 : Vec Ideal S512x64 .f32) (x8 : Vec Ideal S1x64 .f32) (x5 : Vec Ideal S64x64 .f32)
    (x9 x10 : Vec Ideal S1x64 .f32) (j : Fin 64) :
    k0_pay19 x7 x4 x8 x5 x9 x10 (ix2 0 j)
    = (∑ q : Fin 64, ((∑ p : Fin 512, x7 (ix2 0 p) * x4 (ix2 p q)) + x8 (ix2 0 q)) * x5 (ix2 q j)) + x9 (ix2 0 j) + x10 (ix2 0 j) := by
  unfold k0_pay19
  simp only [shapeCast_self]
  pointwise

/-- The first point's zero blocks. -/
theorem zero_hidden (b : Fin 16) (j : Fin 64) : k0_pay85 (k0_pay20 (F := Ideal)) (ix2 b j) = 0 := by
  unfold k0_pay85 k0_pay20
  simp only [shapeCast_self]
  pointwise
theorem zero_sums (b : Fin 16) (j : Fin 64) : k0_pay86 (F := Ideal) (ix2 b j) = 0 := by
  unfold k0_pay86
  simp only [shapeCast_self]
  pointwise

/-- The rows of pre-activations: row `16 n + b` is batch row `b`'s input at the block's position `n` through the weights. -/
theorem rows (x : Vec Ideal S16x256x512 .f32) (W : Vec Ideal S512x64 .f32) (v : Vec Ideal S1x64 .f32) (n : Fin 256) (b : Fin 16)
    (r : Fin 4096) (hr : r.val = n.val * 16 + b.val) (j : Fin 64) :
    k0_pay87 x W v (ix2 r j) = (∑ k : Fin 512, x (ix3 b n k) * W (ix2 k j)) + v (ix2 0 j) := by
  unfold k0_pay87
  simp only [shapeCast_self]
  rw [shapeCast_apply _ _ (ix2 r j) (ix3 n b j) (by simp [Shape.rowMajor_val_two, Shape.rowMajor_val_three]; omega),
    transpose_apply _ _ _ (ix3 n b j) (ix3 b n j) (fun a => match a with | ⟨0, _⟩ => rfl | ⟨1, _⟩ => rfl | ⟨2, _⟩ => rfl),
    shapeCast_apply _ _ (ix3 b n j) (ix2 (⟨b.val * 256 + n.val, by omega⟩ : Fin 4096) j)
      (by simp [Shape.rowMajor_val_two, Shape.rowMajor_val_three])]
  have e : ∀ k : Fin 512, shapeCast S4096x512 x shapeCasts_S16x256x512_S4096x512 (ix2 (⟨b.val * 256 + n.val, by omega⟩ : Fin 4096) k)
      = x (ix3 b n k) := fun k =>
    shapeCast_apply _ _ _ (ix3 b n k) (by simp [Shape.rowMajor_val_two, Shape.rowMajor_val_three])
  generalize shapeCast S4096x512 x shapeCasts_S16x256x512_S4096x512 = y at e ⊢
  pointwise
  simp only [e]

/-- The lengths as the loops read them. -/
theorem lengths (l : Vec Ideal S16x1 .i32) : k0_pay88 l = l := by
  unfold k0_pay88
  simp only [shapeCast_self]

/-- The halves of the carried hidden rows and sums. -/
theorem half_h0 (v : Vec Ideal S16x64 .f32) (i : Fin 8) (j : Fin 64) : k0_pay89 v (ix2 i j) = v (ix2 (lo i) j) :=
  slice_lo v slices_S16x64_o0_0_S8x64 i j
theorem half_h1 (v : Vec Ideal S16x64 .f32) (i : Fin 8) (j : Fin 64) : k0_pay1 v (ix2 i j) = v (ix2 (hi i) j) :=
  slice_hi v slices_S16x64_o8_0_S8x64 i j
theorem half_s0 (v : Vec Ideal S16x64 .f32) (i : Fin 8) (j : Fin 64) : k0_pay2 v (ix2 i j) = v (ix2 (lo i) j) :=
  slice_lo v slices_S16x64_o0_0_S8x64 i j
theorem half_s1 (v : Vec Ideal S16x64 .f32) (i : Fin 8) (j : Fin 64) : k0_pay3 v (ix2 i j) = v (ix2 (hi i) j) :=
  slice_hi v slices_S16x64_o8_0_S8x64 i j

/-- Two halves put back together read what both halves read. -/
theorem joined (a b : FVec Ideal S8x64 .f32) (f : Fin 16 → Fin 64 → EReal) (ha : ∀ i j, a (ix2 i j) = f (lo i) j)
    (hb : ∀ i j, b (ix2 i j) = f (hi i) j) (r : Fin 16) (j : Fin 64) :
    concatenate S16x64 0 [⟨S8x64, a⟩, ⟨S8x64, b⟩] concatenates_S8x64_S8x64_S16x64_d0 (ix2 r j) = f r j := by
  by_cases h : r.val < 8
  · rw [concatenate_pair_apply_left 0 a b _ (ix2 r j) rfl (ix2 (⟨r.val, h⟩ : Fin 8) j)
      (fun a => match a with | ⟨0, _⟩ => rfl | ⟨1, _⟩ => rfl), ha]
    rfl
  · rw [concatenate_pair_apply_right 0 a b _ (ix2 r j) rfl rfl (ix2 (⟨r.val - 8, by omega⟩ : Fin 8) j)
      (fun a h => match a with | ⟨0, _⟩ => absurd rfl h | ⟨1, _⟩ => rfl) (by show r.val - 8 + 8 = r.val; omega), hb]
    exact congrArg (fun z => f z j) (Fin.ext (by show 8 + (r.val - 8) = r.val; omega))

theorem joined_hidden (a b : FVec Ideal S8x64 .f32) (f : Fin 16 → Fin 64 → EReal) (ha : ∀ i j, a (ix2 i j) = f (lo i) j)
    (hb : ∀ i j, b (ix2 i j) = f (hi i) j) (r : Fin 16) (j : Fin 64) : k0_pay14 a b (ix2 r j) = f r j := by
  unfold k0_pay14
  simp only [shapeCast_self]
  exact joined a b f ha hb r j
theorem joined_sums (a b : FVec Ideal S8x64 .f32) (f : Fin 16 → Fin 64 → EReal) (ha : ∀ i j, a (ix2 i j) = f (lo i) j)
    (hb : ∀ i j, b (ix2 i j) = f (hi i) j) (r : Fin 16) (j : Fin 64) : k0_pay16 a b (ix2 r j) = f r j := by
  unfold k0_pay16
  simp only [shapeCast_self]
  exact joined a b f ha hb r j

/-- The last point's result: the sums divided by the lengths, through the last linear map. -/
theorem result (l : Vec Ideal S16x1 .i32) (a b : FVec Ideal S8x64 .f32) (f : Fin 16 → Fin 64 → EReal) (ha : ∀ i j, a (ix2 i j) = f (lo i) j)
    (hb : ∀ i j, b (ix2 i j) = f (hi i) j) (W : Vec Ideal S64x64 .f32) (v : Vec Ideal S1x64 .f32) (r : Fin 16) (j : Fin 64) :
    k0_pay17 l a b W v (ix2 r j)
    = (∑ k : Fin 64, Ideal.div (f r k) (((l (ix2 r 0)).toInt : ℝ) : EReal) * W (ix2 k j)) + v (ix2 0 j) := by
  unfold k0_pay17
  simp only [shapeCast_self]
  have e : ∀ r j, k0_pay15 a b (ix2 r j) = f r j := joined a b f ha hb
  pointwise
  simp only [e]
  rfl

end Cert.Blocks
-- ==== Proof.Carry.lean ====
/- What is carried from one grid point to the next, and what a grid point's loops make of it: the hidden rows and the
   running sums of a position, handed to the loops as halves and put back together after them. -/
module

public import proofs.«01_k».proof.Proof.Chunk
public import proofs.«01_k».proof.Proof.Blocks
public import proofs.«01_k».proof.Proof.Gen.KernelIdeal.Frame.Runs
public import Idealize.ShloMosaic.Lib.VecWindow

@[expose] public section

set_option maxRecDepth 16384

noncomputable section

namespace Cert.Carry

open Idealize.ShloMosaic Idealize.ShloMosaic.TcCoe Cert.KernelIdeal Cert.KernelIdeal.Gen Cert.Trip Cert.Model Cert.Steps
open Cert.Chunk (Filled count_le loops_hold)

/-- A load of a whole buffer that holds `x` reads `x`. -/
theorem loaded {sp : Space} {s : Shape} {e : EltTy} (a : Memref sig .tc sp s e) (h : a.IsWhole) {off : Fin s.rank → ℕ}
    (inb : ∀ d, off d + s.size d ≤ s.size d) (x : s.Idx → Elt Ideal e) :
    a.view.readAt (Elt Ideal) (Rect.unit off s.size inb).toLoadRect (h.unread x) = x :=
  (View.readAt_full _ _ inb).trans (h.read_unread x)

/-- The longest length, as the body reads it from its word of memory. -/
abbrev word (a : Memref sig .tc .smem S1 .i32) (h : a.IsWhole) (x : Vec Ideal S1 .i32) : BitVec 32 :=
  a.view.readAt (Elt Ideal) (Rect.unit (s := S1) ![0] S1.size inb_S1_S1_0).toLoadRect (h.unread x) (Shape.Idx.first (numel1_S1.symm ▸ Nat.one_pos))

/-- The carried hidden rows and running sums are those of position `n`. -/
structure Carried (A : ℕ → Fin 16 → Fin 64 → EReal) (w : Vec Ideal S64x64 .f32) (l : IVec S16x1 32) (n : ℕ)
    (h s : Vec Ideal S16x64 .f32) : Prop where
  hidden : ∀ b j, h (ix2 b j) = hid A w n b j
  sums : ∀ b j, s (ix2 b j) = tot A w (fun b => (l (ix2 b 0)).toInt) n b j

variable {A : ℕ → Fin 16 → Fin 64 → EReal} {w : Vec Ideal S64x64 .f32} {l : IVec S16x1 32} {n : ℕ}

/-- The first point starts from zeros, which are position zero's. -/
theorem Carried.zero : Carried A w l 0 (k0_pay85 (k0_pay20 (F := Ideal))) (k0_pay86 (F := Ideal)) :=
  ⟨Blocks.zero_hidden, fun b j => by rw [Blocks.zero_sums]; unfold tot; rw [Finset.sum_range_zero]⟩

/-- The halves the loops start from hold the carried position. -/
theorem Carried.start {h s : Vec Ideal S16x64 .f32} (c : Carried A w l n h s) :
    Holds A w l n (k0_pay89 h, k0_pay1 h, k0_pay2 s, k0_pay3 s) :=
  ⟨fun i j => (Blocks.half_h0 h i j).trans (c.hidden _ _), fun i j => (Blocks.half_h1 h i j).trans (c.hidden _ _),
    fun i j => (Blocks.half_s0 s i j).trans (c.sums _ _), fun i j => (Blocks.half_s1 s i j).trans (c.sums _ _)⟩

/-- The halves the loops end with, put back together, are the position they hold. -/
theorem Carried.ends {s : State Ideal} (c : Holds A w l n s) :
    Carried A w l n (k0_pay14 s.1 s.2.1) (k0_pay16 s.2.2.1 s.2.2.2) :=
  ⟨Blocks.joined_hidden _ _ _ c.h0 c.h1, Blocks.joined_sums _ _ _ c.s0 c.s1⟩

/-- The last point's result, from the halves its loops end with. -/
theorem ends_result {s : State Ideal} (c : Holds A w l n s) (W : Vec Ideal S64x64 .f32) (v : Vec Ideal S1x64 .f32) (r : Fin 16)
    (j : Fin 64) :
    k0_pay17 l s.2.2.1 s.2.2.2 W v (ix2 r j)
    = (∑ k : Fin 64, Ideal.div (tot A w (fun b => (l (ix2 b 0)).toInt) n r k) (((l (ix2 r 0)).toInt : ℝ) : EReal) * W (ix2 k j))
      + v (ix2 0 j) :=
  Blocks.result l _ _ _ c.s0 c.s1 W v r j

/-- The rows a point stores are its positions' pre-activations. -/
theorem filled (i : grid0.Coords) (v4 : BitVec 32) (x : Vec Ideal S16x256x512 .f32) (W : Vec Ideal S512x64 .f32) (v : Vec Ideal S1x64 .f32)
    (hA : ∀ n : Fin 256, n.val < Chunk.count i v4 → ∀ b j,
      A (256 * (i 0).val + n.val) b j = (∑ k : Fin 512, x (ix3 b n k) * W (ix2 k j)) + v (ix2 0 j)) :
    Filled A i v4 (k0_pay87 x W v) := by
  intro n hn b r hr j
  have hc := count_le i v4
  rw [Blocks.rows x W v ⟨n, by omega⟩ b r hr j]
  exact (hA ⟨n, by omega⟩ hn b j).symm

/-- A point's step count, for a length that is at least one: what is left of the length past the earlier points' steps,
    at most 256. -/
theorem count_eq (i : grid0.Coords) (v : BitVec 32) (hv : 1 ≤ v.toInt) :
    Chunk.count i v = min 256 (v.toInt.toNat - 256 * (i 0).val) := by
  have ha : (i 0).val < 8 := (i 0).isLt
  unfold Chunk.count clip
  generalize (i 0).val = a at ha
  have hm : (Scalar.muli (BitVec.ofNat 32 a) 256#32).toInt = ((256 * a : ℕ) : ℤ) := by
    have : ∀ a : Fin 8, (Scalar.muli (BitVec.ofNat 32 a.val) 256#32).toInt = ((256 * a.val : ℕ) : ℤ) := by decide +kernel
    exact this ⟨a, ha⟩
  generalize Scalar.muli (BitVec.ofNat 32 a) 256#32 = m at hm
  have hlt : v.toInt < 2 ^ 31 := by have := BitVec.toInt_lt (x := v); omega
  have hs : (Scalar.subi v m).toInt = v.toInt - m.toInt := by
    show (v - m).toInt = _
    rw [BitVec.toInt_sub, Int.bmod_eq_of_le] <;> omega
  generalize Scalar.subi v m = d at hs
  have h0 : (0#32).toInt = 0 := by decide
  have h256 : (256#32).toInt = 256 := by decide
  have key : (Scalar.minsi 256#32 (Scalar.maxsi 0#32 d)).toInt = min 256 (max 0 d.toInt) := by
    simp only [Scalar.minsi, Scalar.maxsi, IntOp.minsi, IntOp.maxsi, BitVec.sle, BitVec.slt, h0, h256]
    split_ifs <;> simp_all <;> omega
  have hn := BitVec.toInt_eq_toNat_cond (Scalar.minsi 256#32 (Scalar.maxsi 0#32 d))
  have hb := (Scalar.minsi 256#32 (Scalar.maxsi 0#32 d)).isLt
  split_ifs at hn <;> omega

/-- A point has steps exactly when the body finds that it does. -/
theorem steps_iff (i : grid0.Coords) (v : BitVec 32) : cond0_1 i v ↔ ((256 * (i 0).val : ℕ) : ℤ) < v.toInt := by
  have ha : (i 0).val < 8 := (i 0).isLt
  have hm : (Scalar.muli (BitVec.ofNat 32 (i 0).val) 256#32).toInt = ((256 * (i 0).val : ℕ) : ℤ) := by
    have : ∀ a : Fin 8, (Scalar.muli (BitVec.ofNat 32 a.val) 256#32).toInt = ((256 * a.val : ℕ) : ℤ) := by decide +kernel
    exact this ⟨_, ha⟩
  rw [← hm]
  show Scalar.cmpi .ne (Scalar.extui (Scalar.cmpi .slt (Scalar.muli (BitVec.ofNat 32 (i 0).val) 256#32) v)) 0#32 = 1#1 ↔ _
  generalize Scalar.muli (BitVec.ofNat 32 (i 0).val) 256#32 = m
  by_cases e : m.toInt < v.toInt <;> simp [Scalar.cmpi, Scalar.extui, IntOp.cmpi, BitVec.slt, e]

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (𝒱 : Variants) (c : Dev nD) (bd : Option 𝒱.V) (i : grid0.Coords) (v4 : BitVec 32) (k0_hw1 : k0_chk1 i v4)
  (X : BufTy.Contents (Elt Ideal) arg19.view.ty) {init : State Ideal}

variable {v35 : BitVec 32} {n1 n2 n3 n4 : ℕ} (hq : v35 = eighth (clip (BitVec.ofNat 32 (i 0).val) v4))
  (h1 : n1 = (k0_t1_loop i v4).trips) (h2 : n2 = (k0_t2_loop i v4).trips) (h3 : n3 = (k0_t3_loop i v4).trips)
  (h4 : n4 = (k0_t4_loop i v4).trips)
include hq h1 h2 h3 h4

/-- A point with steps takes the state to the position after its last step. -/
theorem loops_busy (v41 v15 : BitVec 32) (hX : Filled A i v4 (arg19.view.read (Elt Ideal) X)) (hi : Holds A w l (256 * (i 0).val) init) :
    Holds A w l (256 * (i 0).val + Chunk.count i v4)
      (st_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v15 v35 X
        (st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v35 X
          (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v41 X
            (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l X init n1) n2) n3) n4) := by
  subst hq h1 h2 h3 h4
  exact loops_hold arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 𝒱 c bd i v4 k0_hw1 w l v41 v15 hX hi

/-- A point without steps leaves the state as it is: none of its four loops has a trip. -/
theorem loops_idle (v41 v15 : BitVec 32) (h : Chunk.count i v4 = 0) (hi : Holds A w l n init) :
    Holds A w l n
      (st_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v15 v35 X
        (st_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v35 X
          (st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l v41 X
            (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (Scalar.muli (BitVec.ofNat 32 (i 0).val) 256#32) v4 k0_hw1 w l X init n1) n2) n3) n4) := by
  have t1 : (k0_t1_loop i v4).trips = Chunk.count i v4 / 8 := (groups_ok _ (clip_le _ _)).2
  have t2 : (k0_t2_loop i v4).trips = 0 := (groupsLeft_ok _ (clip_le _ _)).2
  have t3 : (k0_t3_loop i v4).trips = Chunk.count i v4 % 8 := (singles_ok _ (clip_le _ _)).2
  have t4 : (k0_t4_loop i v4).trips = 0 := (singlesLeft_ok _ (clip_le _ _)).2
  rw [h] at t1 t3
  rw [h4, h3, h2, h1, t4, t2, t1, t3, st_k0_t4_zero, st_k0_t3_zero, st_k0_t2_zero, st_k0_t1_zero]
  exact hi

end Cert.Carry
-- ==== Proof.PointA.lean ====
/- The first grid point: it stores the fused weights and biases and its rows of pre-activations, and carries the hidden rows
   and sums on from zeros. -/
module

public import proofs.«01_k».proof.Proof.Carry
public import proofs.«01_k».proof.Proof.Gen.KernelIdeal.Frame.RunA

@[expose] public section

set_option maxRecDepth 16384

noncomputable section

namespace Cert.Point

open Idealize.ShloMosaic Idealize.ShloMosaic.TcCoe Cert.KernelIdeal Cert.KernelIdeal.Gen Cert.Model Cert.Carry

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (c : Dev nD) (i : grid0.Coords)
  (x0 : Vec Ideal S16x256x512 .f32) (x1 : Vec Ideal S1 .i32) (x2 : Vec Ideal S16x1 .i32) (x3 : Vec Ideal S512x512 .f32)
  (x4 : Vec Ideal S512x64 .f32) (x5 : Vec Ideal S64x64 .f32) (x6 : Vec Ideal S64x64 .f32) (x7 : Vec Ideal S1x512 .f32)
  (x8 : Vec Ideal S1x64 .f32) (x9 : Vec Ideal S1x64 .f32) (x10 : Vec Ideal S1x64 .f32) (x11 : Vec Ideal S64x64 .f32)
  (x12 : Vec Ideal S1x64 .f32)
variable (hc0 : cond0_0 i) (hc2 : ¬cond0_2 i) (hc1 : cond0_1 i (word arg2 harg2 x1)) (k0_hw1 : k0_chk1 i (word arg2 harg2 x1))
  {A : ℕ → Fin 16 → Fin 64 → EReal} {n : ℕ}

attribute [local irreducible] st_k0_t1 st_k0_t2 st_k0_t3 st_k0_t4 Scf.trips k0_pay14 k0_pay16 k0_pay17 k0_chk1

/-- The fused weights, as the first point leaves them. -/
theorem A_weights (v : View sig .tc .vmem S512x64 .f32) (f) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.1) = k0_pay18 x3 x4 x5 := by
  unfold kernelRun0_A
  dsimp only
  sl_unfold_words
  rw [View.read_writes_full, loaded, loaded, loaded]

/-- The fused biases, as the first point leaves them. -/
theorem A_biases (v : View sig .tc .vmem S1x64 .f32) (f) :
    v.read (Elt Ideal) (v.writes (Elt Ideal) f (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.1) = k0_pay19 x7 x4 x8 x5 x9 x10 := by
  unfold kernelRun0_A
  dsimp only
  sl_unfold_words
  rw [View.read_writes_full, loaded, loaded, loaded, loaded, loaded, loaded]

set_option maxHeartbeats 1000000 in
/-- The carried blocks are those of the position after the point's last step. -/
theorem A_carried (v2 v3 : View sig .tc .vmem S16x64 .f32) (f2 f3) (hi0 : (i 0).val = 0)
    (hA : ∀ n : Fin 256, n.val < Chunk.count i (word arg2 harg2 x1) → ∀ b j,
      A (256 * (i 0).val + n.val) b j = (∑ k : Fin 512, x0 (ix3 b n k) * k0_pay18 x3 x4 x5 (ix2 k j)) + k0_pay19 x7 x4 x8 x5 x9 x10 (ix2 0 j)) :
    Carried A x6 x2 (256 * (i 0).val + Chunk.count i (word arg2 harg2 x1))
      (v2.read (Elt Ideal) (v2.writes (Elt Ideal) f2 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.1))
      (v3.read (Elt Ideal) (v3.writes (Elt Ideal) f3 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 hc1 k0_hw1).2.2.2.2.1)) := by
  have hw : arg7.view.readAt (Elt Ideal) (Rect.unit ![0, 0] S64x64.size inb_S64x64_S64x64_0_0).toLoadRect (harg7.unread x6) = x6 := loaded arg7 harg7 _ x6
  have hl : k0_pay88 (arg3.view.readAt (Elt Ideal) (Rect.unit ![0, 0] S16x1.size inb_S16x1_S16x1_0_0).toLoadRect (harg3.unread x2)) = x2 :=
    (Blocks.lengths _).trans (loaded arg3 harg3 _ x2)
  unfold kernelRun0_A
  dsimp only
  sl_unfold_words
  rw [View.read_writes_full, View.read_writes_full]
  rw [hw, hl]
  simp (config := {proj := false}) only [Prod.mk.eta]
  refine Carried.ends (loops_busy arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ c _ i _ k0_hw1 _ ?_ ?_ ?_ ?_ ?_ _ _ ?_ ?_)
  · rfl
  · rfl
  · rfl
  · rfl
  · rfl
  · rw [View.read_writes_full, View.readCov_full, View.readCov_full, loaded, loaded, loaded, loaded, loaded, loaded, loaded, loaded]
    exact filled i _ x0 _ _ hA
  · rw [View.readCov_full, View.readCov_full, hi0]
    exact Carried.zero.start

end Cert.Point
-- ==== Proof.PointC.lean ====
/- A middle grid point that has steps: it stores its rows of pre-activations and carries the hidden rows and sums on. -/
module

public import proofs.«01_k».proof.Proof.Carry
public import proofs.«01_k».proof.Proof.Gen.KernelIdeal.Frame.RunC

@[expose] public section

set_option maxRecDepth 16384

noncomputable section

namespace Cert.Point

open Idealize.ShloMosaic Idealize.ShloMosaic.TcCoe Cert.KernelIdeal Cert.KernelIdeal.Gen Cert.Model Cert.Carry

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (c : Dev nD) (i : grid0.Coords)
  (x0 : Vec Ideal S16x256x512 .f32) (x1 : Vec Ideal S1 .i32) (x2 : Vec Ideal S16x1 .i32) (x3 : Vec Ideal S512x512 .f32)
  (x4 : Vec Ideal S512x64 .f32) (x5 : Vec Ideal S64x64 .f32) (x6 : Vec Ideal S64x64 .f32) (x7 : Vec Ideal S1x512 .f32)
  (x8 : Vec Ideal S1x64 .f32) (x9 : Vec Ideal S1x64 .f32) (x10 : Vec Ideal S1x64 .f32) (x11 : Vec Ideal S64x64 .f32)
  (x12 : Vec Ideal S1x64 .f32)
  (xs0 : Vec Ideal S512x64 .f32) (xs1 : Vec Ideal S1x64 .f32) (xs2 : Vec Ideal S16x64 .f32) (xs3 : Vec Ideal S16x64 .f32)
variable (hc0 : ¬cond0_0 i) (hc2 : ¬cond0_2 i) (hc1 : cond0_1 i (word arg2 harg2 x1)) (k0_hw1 : k0_chk1 i (word arg2 harg2 x1))
  {A : ℕ → Fin 16 → Fin 64 → EReal} {n : ℕ}

attribute [local irreducible] st_k0_t1 st_k0_t2 st_k0_t3 st_k0_t4 Scf.trips k0_pay14 k0_pay16 k0_pay17 k0_chk1

set_option maxHeartbeats 1000000 in
/-- The carried blocks go from the point's first position to the position after its last step. -/
theorem C_carried (v2 v3 : View sig .tc .vmem S16x64 .f32) (f2 f3) (h : Carried A x6 x2 (256 * (i 0).val) xs2 xs3)
    (hA : ∀ n : Fin 256, n.val < Chunk.count i (word arg2 harg2 x1) → ∀ b j,
      A (256 * (i 0).val + n.val) b j = (∑ k : Fin 512, x0 (ix3 b n k) * xs0 (ix2 k j)) + xs1 (ix2 0 j)) :
    Carried A x6 x2 (256 * (i 0).val + Chunk.count i (word arg2 harg2 x1))
      (v2.read (Elt Ideal) (v2.writes (Elt Ideal) f2 (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.1))
      (v3.read (Elt Ideal) (v3.writes (Elt Ideal) f3 (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).2.2.2.2.1)) := by
  have hw : arg7.view.readAt (Elt Ideal) (Rect.unit ![0, 0] S64x64.size inb_S64x64_S64x64_0_0).toLoadRect (harg7.unread x6) = x6 := loaded arg7 harg7 _ x6
  have hl : k0_pay88 (arg3.view.readAt (Elt Ideal) (Rect.unit ![0, 0] S16x1.size inb_S16x1_S16x1_0_0).toLoadRect (harg3.unread x2)) = x2 :=
    (Blocks.lengths _).trans (loaded arg3 harg3 _ x2)
  unfold kernelRun0_C
  dsimp only
  sl_unfold_words
  rw [View.read_writes_full, View.read_writes_full]
  rw [hw, hl]
  simp (config := {proj := false}) only [Prod.mk.eta]
  refine Carried.ends (loops_busy arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ c _ i _ k0_hw1 _ ?_ ?_ ?_ ?_ ?_ _ _ ?_ ?_)
  · rfl
  · rfl
  · rfl
  · rfl
  · rfl
  · rw [View.read_writes_full, loaded, loaded, loaded]
    exact filled i _ x0 xs0 xs1 hA
  · rw [loaded, loaded]
    exact h.start

end Cert.Point
-- ==== Proof.PointD.lean ====
/- A middle grid point without steps: it carries the hidden rows and sums on as they are. -/
module

public import proofs.«01_k».proof.Proof.Carry
public import proofs.«01_k».proof.Proof.Gen.KernelIdeal.Frame.RunD

@[expose] public section

set_option maxRecDepth 16384

noncomputable section

namespace Cert.Point

open Idealize.ShloMosaic Idealize.ShloMosaic.TcCoe Cert.KernelIdeal Cert.KernelIdeal.Gen Cert.Model Cert.Carry

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (c : Dev nD) (i : grid0.Coords)
  (x0 : Vec Ideal S16x256x512 .f32) (x1 : Vec Ideal S1 .i32) (x2 : Vec Ideal S16x1 .i32) (x3 : Vec Ideal S512x512 .f32)
  (x4 : Vec Ideal S512x64 .f32) (x5 : Vec Ideal S64x64 .f32) (x6 : Vec Ideal S64x64 .f32) (x7 : Vec Ideal S1x512 .f32)
  (x8 : Vec Ideal S1x64 .f32) (x9 : Vec Ideal S1x64 .f32) (x10 : Vec Ideal S1x64 .f32) (x11 : Vec Ideal S64x64 .f32)
  (x12 : Vec Ideal S1x64 .f32)
  (xs0 : Vec Ideal S512x64 .f32) (xs1 : Vec Ideal S1x64 .f32) (xs2 : Vec Ideal S16x64 .f32) (xs3 : Vec Ideal S16x64 .f32) (xs4 : Vec Ideal S4096x64 .f32)
variable (hc0 : ¬cond0_0 i) (hc2 : ¬cond0_2 i) (hc1 : ¬cond0_1 i (word arg2 harg2 x1)) (k0_hw1 : k0_chk1 i (word arg2 harg2 x1))
  {A : ℕ → Fin 16 → Fin 64 → EReal} {n : ℕ}

attribute [local irreducible] st_k0_t1 st_k0_t2 st_k0_t3 st_k0_t4 Scf.trips k0_pay14 k0_pay16 k0_pay17 k0_chk1

set_option maxHeartbeats 1000000 in
/-- The carried blocks stay those of the same position. -/
theorem D_carried (v2 v3 : View sig .tc .vmem S16x64 .f32) (f2 f3) (h : Carried A x6 x2 n xs2 xs3)
    (hz : Chunk.count i (word arg2 harg2 x1) = 0) :
    Carried A x6 x2 n
      (v2.read (Elt Ideal) (v2.writes (Elt Ideal) f2 (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.1))
      (v3.read (Elt Ideal) (v3.writes (Elt Ideal) f3 (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).2.2.2.2.1)) := by
  have hw : arg7.view.readAt (Elt Ideal) (Rect.unit ![0, 0] S64x64.size inb_S64x64_S64x64_0_0).toLoadRect (harg7.unread x6) = x6 := loaded arg7 harg7 _ x6
  have hl : k0_pay88 (arg3.view.readAt (Elt Ideal) (Rect.unit ![0, 0] S16x1.size inb_S16x1_S16x1_0_0).toLoadRect (harg3.unread x2)) = x2 :=
    (Blocks.lengths _).trans (loaded arg3 harg3 _ x2)
  unfold kernelRun0_D
  dsimp only
  sl_unfold_words
  rw [View.read_writes_full, View.read_writes_full]
  rw [hw, hl]
  simp (config := {proj := false}) only [Prod.mk.eta]
  refine Carried.ends (loops_idle arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ c _ i _ k0_hw1 _ ?_ ?_ ?_ ?_ ?_ _ _ hz ?_)
  · rfl
  · rfl
  · rfl
  · rfl
  · rfl
  · rw [loaded, loaded]
    exact h.start

end Cert.Point
-- ==== Proof.Reads.lean ====
/- What each window hands the body, in terms of the argument arrays: the chunk of the features, the longest length, and
   the whole of every other argument. -/
module

public import proofs.«01_k».proof.Proof.Bounds
public import proofs.«01_k».proof.Proof.Carry
public import Idealize.ShloMosaic.Lib.Pipeline.Value
public import Idealize.ShloMosaic.Lib.Pointwise
public import Idealize.ShloMosaic.Lib.Pipeline.ValueKit.Point
public import Idealize.ShloMosaic.Lib.Claim

@[expose] public section

set_option maxRecDepth 16384

noncomputable section

namespace Cert.Reads

open Idealize.ShloMosaic Idealize.ShloMosaic.TcCoe Cert.KernelIdeal Cert.KernelIdeal.Gen

variable (m : (ℓ : Loc nD τ sig) → Buf (Elt Ideal) ℓ) (c : Dev nD) (t : Fin cfg0.N)

/-- Where each window's block lies: the features move with the point along the steps, the rest stay. -/
theorem places : ∀ t : Fin cfg0.N, win0_0.index t = ![0, t.val, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] := by decide +kernel

/-- The features' block. -/
theorem features (b : Fin 16) (n : Fin 256) (k : Fin 512) (h : 256 * t.val + n.val < 2048) :
    iblk m c 0 t (ix3 b n k) = m ((c : Thread nD τ).loc main_arg0) (ix3 b ⟨256 * t.val + n.val, h⟩ k) := by
  blk_ext [iblk, V, places t]

/-- The first weights' block. -/
theorem weights_feat : iblk m c 3 t = m ((c : Thread nD τ).loc main_arg2) := by
  funext y
  blk_ext [iblk, V, places t]

/-- The second weights' block. -/
theorem weights_red : iblk m c 4 t = m ((c : Thread nD τ).loc main_arg4) := by
  funext y
  blk_ext [iblk, V, places t]

/-- The input weights' block. -/
theorem weights_in : iblk m c 5 t = m ((c : Thread nD τ).loc main_arg6) := by
  funext y
  blk_ext [iblk, V, places t]

/-- The recurrent weights' block. -/
theorem weights_rec : iblk m c 6 t = m ((c : Thread nD τ).loc main_arg7) := by
  funext y
  blk_ext [iblk, V, places t]

/-- The classifier's weights' block. -/
theorem weights_cls : iblk m c 11 t = m ((c : Thread nD τ).loc main_arg10) := by
  funext y
  blk_ext [iblk, V, places t]

/-- The lengths' block, whole. -/
theorem lengths_block : iblk m c 2 t = V m c main_v0 := by
  funext y
  blk_ext [iblk, places t]

/-- The lengths' array, as the region finds it. -/
theorem lengths (b : Fin 16) : V m c main_v0 (ix2 b 0) = m ((c : Thread nD τ).loc main_arg1) (ix1 b) := by
  entry_read
  pointwise

/-- The first bias's block. -/
theorem bias_feat (j : Fin 512) : iblk m c 7 t (ix2 0 j) = m ((c : Thread nD τ).loc main_arg3) (ix1 j) := by
  rw [show iblk m c 7 t (ix2 0 j) = V m c main_v2 (ix2 0 j) by blk_ext [iblk, places t]]
  entry_read
  pointwise

/-- The second bias's block. -/
theorem bias_red (j : Fin 64) : iblk m c 8 t (ix2 0 j) = m ((c : Thread nD τ).loc main_arg5) (ix1 j) := by
  rw [show iblk m c 8 t (ix2 0 j) = V m c main_v3 (ix2 0 j) by blk_ext [iblk, places t]]
  entry_read
  pointwise

/-- The input bias's block. -/
theorem bias_in (j : Fin 64) : iblk m c 9 t (ix2 0 j) = m ((c : Thread nD τ).loc main_arg8) (ix1 j) := by
  rw [show iblk m c 9 t (ix2 0 j) = V m c main_v4 (ix2 0 j) by blk_ext [iblk, places t]]
  entry_read
  pointwise

/-- The recurrent bias's block. -/
theorem bias_rec (j : Fin 64) : iblk m c 10 t (ix2 0 j) = m ((c : Thread nD τ).loc main_arg9) (ix1 j) := by
  rw [show iblk m c 10 t (ix2 0 j) = V m c main_v5 (ix2 0 j) by blk_ext [iblk, places t]]
  entry_read
  pointwise

/-- The classifier's bias's block. -/
theorem bias_cls (j : Fin 64) : iblk m c 12 t (ix2 0 j) = m ((c : Thread nD τ).loc main_arg11) (ix1 j) := by
  rw [show iblk m c 12 t (ix2 0 j) = V m c main_v6 (ix2 0 j) by blk_ext [iblk, places t]]
  entry_read
  pointwise

/-- The word the body reads is the first length. -/
theorem word_read : Carry.word (ms0_1 t) (hs0_1 t) (iblk m c 1 t) = m ((c : Thread nD τ).loc main_arg1) (ix1 0) := by
  unfold Carry.word
  rw [View.readAt_apply, (hs0_1 t).read_unread]
  exact Bounds.word_ideal m c t _

end Cert.Reads
-- ==== Proof.Equation.lean ====
/- The algebra that the kernel relies on: three linear maps in a row are one. Over the extended reals a product
   distributes over a sum when the factor and one summand are real, so the inputs and the weights are real here and the
   biases are any values. -/
module

public import Mathlib.Data.EReal.Operations
public import Mathlib.Algebra.BigOperators.Ring.Finset
public import Mathlib.Algebra.BigOperators.Group.Finset.Sigma

@[expose] public section

namespace Cert.Equation

/-- A real factor distributes over a sum with a real summand. -/
theorem add_mul_real (a w : ℝ) (b : EReal) : ((a : EReal) + b) * (w : EReal) = a * w + b * w := by
  induction b using EReal.rec with
  | coe b => norm_cast; ring
  | top =>
    rw [EReal.coe_add_top, ← EReal.coe_mul]
    rcases lt_trichotomy w 0 with h | h | h
    · rw [EReal.top_mul_coe_of_neg h, EReal.add_bot]
    · subst h; simp
    · rw [EReal.top_mul_coe_of_pos h, EReal.coe_add_top]
  | bot =>
    rw [EReal.add_bot, ← EReal.coe_mul]
    rcases lt_trichotomy w 0 with h | h | h
    · rw [EReal.bot_mul_coe_of_neg h, EReal.coe_add_top]
    · subst h; simp
    · rw [EReal.bot_mul_coe_of_pos h, EReal.add_bot]

/-- A finite sum of reals is a real. -/
theorem coe_sum {ι : Type} [Fintype ι] (f : ι → ℝ) : (∑ i, (f i : EReal)) = ((∑ i, f i : ℝ) : EReal) :=
  (map_sum (⟨⟨((↑) : ℝ → EReal), rfl⟩, EReal.coe_add⟩ : ℝ →+ EReal) f Finset.univ).symm

/-- A linear map with real weights, of real values plus any biases: the values' part and the biases' part. -/
theorem linear {ι : Type} [Fintype ι] (a w : ι → ℝ) (b : ι → EReal) :
    ∑ i, ((a i : EReal) + b i) * (w i : EReal) = ((∑ i, a i * w i : ℝ) : EReal) + ∑ i, b i * (w i : EReal) := by
  simp only [add_mul_real, Finset.sum_add_distrib, ← EReal.coe_mul, coe_sum]

/-- Three linear maps of real rows are one. -/
theorem three {κ π ρ : Type} [Fintype κ] [Fintype π] [Fintype ρ] (x : κ → ℝ) (f : κ → π → ℝ) (g : π → ρ → ℝ) (h : ρ → ℝ) :
    ∑ q, (∑ p, (∑ k, x k * f k p) * g p q) * h q = ∑ k, x k * ∑ q, (∑ p, f k p * g p q) * h q := by
  simp only [Finset.sum_mul, Finset.mul_sum]
  rw [Finset.sum_comm]
  conv_lhs => enter [2, p]; rw [Finset.sum_comm]
  rw [Finset.sum_comm]
  conv_rhs => enter [2, k]; rw [Finset.sum_comm]
  exact Finset.sum_congr rfl fun k _ => Finset.sum_congr rfl fun p _ => Finset.sum_congr rfl fun q _ => by ring

/-- The kernel's reassociation: the three maps with their biases, one after the other, are the fused weights and the fused
    bias. -/
theorem fused {κ π ρ : Type} [Fintype κ] [Fintype π] [Fintype ρ] {x : κ → EReal} {f : κ → π → EReal} {g : π → ρ → EReal} {h : ρ → EReal}
    (hx : ∀ k, ∃ r : ℝ, x k = r) (hf : ∀ k p, ∃ r : ℝ, f k p = r) (hg : ∀ p q, ∃ r : ℝ, g p q = r) (hh : ∀ q, ∃ r : ℝ, h q = r)
    (bf : π → EReal) (bg : ρ → EReal) :
    ∑ q, ((∑ p, (∑ k, x k * f k p + bf p) * g p q) + bg q) * h q
    = (∑ k, x k * ∑ q, (∑ p, f k p * g p q) * h q) + ∑ q, ((∑ p, bf p * g p q) + bg q) * h q := by
  choose x' ex using hx
  choose f' ef using hf
  choose g' eg using hg
  choose h' eh using hh
  obtain rfl : x = fun k => (x' k : EReal) := funext ex
  obtain rfl : f = fun k p => (f' k p : EReal) := funext fun k => funext (ef k)
  obtain rfl : g = fun p q => (g' p q : EReal) := funext fun p => funext (eg p)
  obtain rfl : h = fun q => (h' q : EReal) := funext eh
  simp only [← EReal.coe_mul, coe_sum, linear, add_assoc, three]

end Cert.Equation
-- ==== Proof.Rows.lean ====
/- The two forms of the rows of pre-activations, the reference's three linear maps and the kernel's fused one, as
   functions of the arguments; they agree at a position below its row's length, and so do the hidden rows up to there and
   the sums over the positions below the length. -/
module

public import proofs.«01_k».proof.Proof.Model
public import proofs.«01_k».proof.Proof.Finite
public import proofs.«01_k».proof.Proof.Equation

@[expose] public section

noncomputable section

namespace Cert.Rows

open Idealize.ShloMosaic Cert.Model

variable (x : FVec Ideal ⟨3, ![16, 2048, 512]⟩ .f32) (wf : FVec Ideal ⟨2, ![512, 512]⟩ .f32) (bf : FVec Ideal ⟨1, ![512]⟩ .f32)
  (wr : FVec Ideal ⟨2, ![512, 64]⟩ .f32) (br : FVec Ideal ⟨1, ![64]⟩ .f32) (wi : FVec Ideal ⟨2, ![64, 64]⟩ .f32)
  (bi bh : FVec Ideal ⟨1, ![64]⟩ .f32)

/-- The reduced features of a position. -/
def feature (t : Fin 2048) (b : Fin 16) (q : Fin 64) : EReal :=
  (∑ p : Fin 512, (∑ k : Fin 512, x (ix3 b t k) * wf (ix2 k p) + bf (ix1 p)) * wr (ix2 p q)) + br (ix1 q)

/-- The reference's pre-activations: the features through the input weights, and both biases. -/
def plain (t : ℕ) (b : Fin 16) (j : Fin 64) : EReal :=
  if h : t < 2048 then (∑ q : Fin 64, feature x wf bf wr br ⟨t, h⟩ b q * wi (ix2 q j)) + bi (ix1 j) + bh (ix1 j) else 0

/-- The fused weights. -/
def weight (k : Fin 512) (j : Fin 64) : EReal :=
  ∑ q : Fin 64, (∑ p : Fin 512, wf (ix2 k p) * wr (ix2 p q)) * wi (ix2 q j)

/-- The fused bias. -/
def bias (j : Fin 64) : EReal :=
  (∑ q : Fin 64, ((∑ p : Fin 512, bf (ix1 p) * wr (ix2 p q)) + br (ix1 q)) * wi (ix2 q j)) + bi (ix1 j) + bh (ix1 j)

/-- The kernel's pre-activations. -/
def fused (t : ℕ) (b : Fin 16) (j : Fin 64) : EReal :=
  if h : t < 2048 then (∑ k : Fin 512, x (ix3 b ⟨t, h⟩ k) * weight wf wr wi k j) + bias bf wr br wi bi bh j else 0

/-- At a position below its row's length the two agree. -/
theorem agree {len : IVec ⟨1, ![16]⟩ 32} (g : Bounds.Given x len wf wr wi) (t : ℕ) (b : Fin 16) (ht : (t : ℤ) < (len (ix1 b)).toInt)
    (j : Fin 64) : plain x wf bf wr br wi bi bh t b j = fused x wf bf wr br wi bi bh t b j := by
  unfold plain fused
  by_cases h : t < 2048
  · rw [dif_pos h, dif_pos h]
    unfold feature weight bias
    rw [Equation.fused (x := fun k => x (ix3 b ⟨t, h⟩ k)) (fun k => g.x b ⟨t, h⟩ k ht) (fun k p => g.wf (ix2 k p)) (fun p q => g.wr (ix2 p q)) (fun q => g.wi (ix2 q j))
      (fun p => bf (ix1 p)) (fun q => br (ix1 q))]
    simp only [add_assoc]
  · rw [dif_neg h, dif_neg h]

/-- The hidden row of a position is made of the pre-activations before it. -/
theorem hid_congr {A B : ℕ → Fin 16 → Fin 64 → EReal} (w : FVec Ideal ⟨2, ![64, 64]⟩ .f32) (b : Fin 16) :
    ∀ n : ℕ, (∀ t < n, ∀ j, A t b j = B t b j) → ∀ j, hid A w n b j = hid B w n b j
  | 0, _, _ => rfl
  | n + 1, h, j => by
    have e := hid_congr w b n fun t ht => h t (ht.trans (Nat.lt_succ_self n))
    show Ideal.tanh _ = Ideal.tanh _
    rw [h n (Nat.lt_succ_self n) j]
    simp only [e]

/-- The sums are made of the pre-activations below the length. -/
theorem tot_congr {A B : ℕ → Fin 16 → Fin 64 → EReal} (w : FVec Ideal ⟨2, ![64, 64]⟩ .f32) (l : Fin 16 → ℤ) (b : Fin 16)
    (h : ∀ t : ℕ, (t : ℤ) < l b → ∀ j, A t b j = B t b j) (n : ℕ) (j : Fin 64) : tot A w l n b j = tot B w l n b j := by
  unfold tot
  refine Finset.sum_congr rfl fun τ _ => ?_
  by_cases c : (τ : ℤ) < l b
  · rw [if_pos c, if_pos c]
    exact hid_congr w b _ (fun t ht => h t (by omega)) j
  · rw [if_neg c, if_neg c]

/-- The sums over more positions are no different once the row has ended. -/
theorem tot_past (A : ℕ → Fin 16 → Fin 64 → EReal) (w : FVec Ideal ⟨2, ![64, 64]⟩ .f32) (l : Fin 16 → ℤ) (b : Fin 16) {n N : ℕ}
    (hn : n ≤ N) (h : l b ≤ n) (j : Fin 64) : tot A w l N b j = tot A w l n b j := by
  induction N, hn using Nat.le_induction with
  | base => rfl
  | succ N hN ih => rw [tot_succ, ih, if_neg (by omega), add_zero]

end Cert.Rows

end
-- ==== Proof.Invariant.lean ====
/- What is carried after each grid point: the fused weights and biases of the arguments, and the hidden rows and running
   sums of the position reached, which is the end of the chunk or the longest length, whichever comes first. -/
module

public import proofs.«01_k».proof.Proof.PointA
public import proofs.«01_k».proof.Proof.PointC
public import proofs.«01_k».proof.Proof.PointD
public import proofs.«01_k».proof.Proof.Reads
public import proofs.«01_k».proof.Proof.Rows
public import proofs.«01_k».proof.Proof.Points

@[expose] public section

set_option maxRecDepth 16384

noncomputable section

namespace Cert.Invariant

open Idealize.ShloMosaic Idealize.ShloMosaic.TcCoe Cert.KernelIdeal Cert.KernelIdeal.Gen Cert.Carry Cert.Launch

variable (m : (ℓ : Loc nD τ sig) → Buf (Elt Ideal) ℓ) (c : Dev nD)

/-- The kernel's pre-activations, of the argument arrays. -/
abbrev pre : ℕ → Fin 16 → Fin 64 → EReal :=
  Rows.fused (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg8)) (m ((c : Thread nD τ).loc main_arg9))

/-- The fused weights and biases, of the argument arrays. -/
abbrev weight : Fin 512 → Fin 64 → EReal :=
  Rows.weight (m ((c : Thread nD τ).loc main_arg2)) (m ((c : Thread nD τ).loc main_arg4)) (m ((c : Thread nD τ).loc main_arg6))
abbrev bias : Fin 64 → EReal :=
  Rows.bias (m ((c : Thread nD τ).loc main_arg3)) (m ((c : Thread nD τ).loc main_arg4)) (m ((c : Thread nD τ).loc main_arg5))
    (m ((c : Thread nD τ).loc main_arg6)) (m ((c : Thread nD τ).loc main_arg8)) (m ((c : Thread nD τ).loc main_arg9))

/-- The longest length. -/
abbrev longest : ℤ := (m ((c : Thread nD τ).loc main_arg1) (ix1 0) : BitVec 32).toInt

/-- The position reached before point `t`. -/
abbrev reached (t : ℕ) : ℕ := min (256 * t) (longest m c).toNat

/-- What is carried when position `n` is reached. -/
structure Good (n : ℕ) (W : Vec Ideal S512x64 .f32) (v : Vec Ideal S1x64 .f32) (h s : Vec Ideal S16x64 .f32) : Prop where
  weights : ∀ k j, W (ix2 k j) = weight m c k j
  biases : ∀ j, v (ix2 0 j) = bias m c j
  carried : Carried (pre m c) (m ((c : Thread nD τ).loc main_arg7)) (V m c main_v0) n h s

variable (t : Fin cfg0.N)

/-- A point's coordinate is its number. -/
theorem coord : ∀ t : Fin cfg0.N, (grid0.coords t 0).val = t.val := by decide +kernel

/-- The features a point reads. -/
abbrev chunk : Vec Ideal S16x256x512 .f32 := iblk m c 0 t

/-- A position's pre-activations, from its point's block. -/
theorem row (b : Fin 16) (n : Fin 256) (j : Fin 64) : pre m c (256 * (grid0.coords t 0).val + n.val) b j
    = (∑ k : Fin 512, chunk m c t (ix3 b n k) * weight m c k j) + bias m c j := by
  have ht : t.val < 8 := Nat.lt_of_lt_of_eq t.isLt N_0
  have h : 256 * t.val + n.val < 2048 := by omega
  rw [coord]
  unfold pre Rows.fused
  rw [dif_pos h]
  simp only [Reads.features m c t b n _ h]

/-- The weights the first point makes are the fused ones. -/
theorem made_weights (k : Fin 512) (j : Fin 64) :
    k0_pay18 (iblk m c 3 t) (iblk m c 4 t) (iblk m c 5 t) (ix2 k j) = weight m c k j := by
  rw [Blocks.weights, Reads.weights_feat, Reads.weights_red, Reads.weights_in]
  rfl

/-- The biases the first point makes are the fused ones. -/
theorem made_biases (j : Fin 64) :
    k0_pay19 (iblk m c 7 t) (iblk m c 4 t) (iblk m c 8 t) (iblk m c 5 t) (iblk m c 9 t) (iblk m c 10 t) (ix2 0 j) = bias m c j := by
  rw [Blocks.biases, Reads.weights_red, Reads.weights_in]
  simp only [Reads.bias_feat, Reads.bias_red, Reads.bias_in, Reads.bias_rec]
  rfl

/-- Blocks of the recurrent weights and of the lengths are the arrays. -/
theorem of_eq {A : ℕ → Fin 16 → Fin 64 → EReal} {n : ℕ} {h s : Vec Ideal S16x64 .f32} (k : Carried A (iblk m c 6 t) (iblk m c 2 t) n h s) :
    Carried A (m ((c : Thread nD τ).loc main_arg7)) (V m c main_v0) n h s := by
  rw [← Reads.weights_rec m c t, ← Reads.lengths_block m c t]
  exact k

variable (hL : 1 ≤ longest m c)
include hL

/-- A point's step count. -/
theorem steps : Chunk.count (grid0.coords t) (word (ms0_1 t) (hs0_1 t) (iblk m c 1 t)) = min 256 ((longest m c).toNat - 256 * t.val) := by
  rw [Reads.word_read, count_eq _ _ hL, coord]

omit hL in
/-- A point has steps when it starts below the longest length. -/
theorem busy : cond0_1 (grid0.coords t) (word (ms0_1 t) (hs0_1 t) (iblk m c 1 t)) ↔ ((256 * t.val : ℕ) : ℤ) < longest m c := by
  rw [Reads.word_read, steps_iff, coord]

attribute [local irreducible] kernelRun0_A kernelRun0_C kernelRun0_D

variable (hH : Hyps m)

/-- After the first point. -/
theorem first (h0 : t.val = 0) : Good m c (reached m c (t.val + 1)) (outsAt0 m hH c t.val t.isLt).2.1 (outsAt0 m hH c t.val t.isLt).2.2.1
    (outsAt0 m hH c t.val t.isLt).2.2.2.1 (outsAt0 m hH c t.val t.isLt).2.2.2.2.1 := by
  have h1 := (busy m c t).2 (by omega)
  have hn : reached m c (t.val + 1)
      = 256 * (grid0.coords t 0).val + Chunk.count (grid0.coords t) (word (ms0_1 t) (hs0_1 t) (iblk m c 1 t)) := by
    rw [steps m c t hL, coord]
    show min _ _ = _
    omega
  rw [outsAt0_A m hH c t (by omega) h1 (by omega), hn]
  dsimp only [sout0_A_0, sout0_A_1, sout0_A_2, sout0_A_3]
  refine ⟨fun k j => ?_, fun j => ?_, ?_⟩
  · refine (congrFun (Point.A_weights ..) _).trans (made_weights m c t k j)
  · refine (congrFun (Point.A_biases ..) _).trans (made_biases m c t j)
  · refine of_eq m c t (Point.A_carried (A := pre m c) (hi0 := (coord t).trans h0) (hA := fun n _ b j => ?_) ..)
    simp only [made_weights, made_biases]
    exact row m c t b n j

/-- What the point before left. -/
abbrev Before : Prop := Good m c (reached m c t.val) (outsAt0 m hH c (t.val - 1) (Nat.lt_of_le_of_lt (Nat.sub_le _ _) t.isLt)).2.1
  (outsAt0 m hH c (t.val - 1) (Nat.lt_of_le_of_lt (Nat.sub_le _ _) t.isLt)).2.2.1
  (outsAt0 m hH c (t.val - 1) (Nat.lt_of_le_of_lt (Nat.sub_le _ _) t.isLt)).2.2.2.1
  (outsAt0 m hH c (t.val - 1) (Nat.lt_of_le_of_lt (Nat.sub_le _ _) t.isLt)).2.2.2.2.1

omit hL in
/-- The carried rows and sums, over the blocks of a point. -/
theorem at_blocks {A : ℕ → Fin 16 → Fin 64 → EReal} {n : ℕ} {h s : Vec Ideal S16x64 .f32}
    (k : Carried A (m ((c : Thread nD τ).loc main_arg7)) (V m c main_v0) n h s) : Carried A (iblk m c 6 t) (iblk m c 2 t) n h s := by
  rw [Reads.weights_rec m c t, Reads.lengths_block m c t]
  exact k

omit hL in
/-- A position's pre-activations, from its point's block and what is carried. -/
theorem row_of (B : Before m c t hH) (b : Fin 16) (n : Fin 256) (j : Fin 64) : pre m c (256 * (grid0.coords t 0).val + n.val) b j
    = (∑ k : Fin 512, chunk m c t (ix3 b n k)
        * (outsAt0 m hH c (t.val - 1) (Nat.lt_of_le_of_lt (Nat.sub_le _ _) t.isLt)).2.1 (ix2 k j))
      + (outsAt0 m hH c (t.val - 1) (Nat.lt_of_le_of_lt (Nat.sub_le _ _) t.isLt)).2.2.1 (ix2 0 j) := by
  simp only [B.weights, B.biases]
  exact row m c t b n j

/-- From a middle point to the next. -/
theorem next (h0 : t.val ≠ 0) (h2 : t.val < 7) (B : Before m c t hH) :
    Good m c (reached m c (t.val + 1)) (outsAt0 m hH c t.val t.isLt).2.1 (outsAt0 m hH c t.val t.isLt).2.2.1
      (outsAt0 m hH c t.val t.isLt).2.2.2.1 (outsAt0 m hH c t.val t.isLt).2.2.2.2.1 := by
  by_cases h1 : cond0_1 (grid0.coords t) (word (ms0_1 t) (hs0_1 t) (iblk m c 1 t))
  · have hb := (busy m c t).1 h1
    have hn : reached m c (t.val + 1)
        = 256 * (grid0.coords t 0).val + Chunk.count (grid0.coords t) (word (ms0_1 t) (hs0_1 t) (iblk m c 1 t)) := by
      rw [steps m c t hL, coord]
      show min _ _ = _
      omega
    have hr : reached m c t.val = 256 * (grid0.coords t 0).val := by
      rw [coord]
      show min _ _ = _
      omega
    rw [outsAt0_C m hH c t (by omega) h1 (by omega), hn]
    dsimp only [sout0_C_0, sout0_C_1, sout0_C_2, sout0_C_3]
    refine ⟨B.weights, B.biases, of_eq m c t (Point.C_carried (A := pre m c) (h := ?_) (hA := fun n _ b j => ?_) ..)⟩
    · exact hr ▸ at_blocks m c t B.carried
    · exact row_of m c t hH B b n j
  · have hb := mt (busy m c t).2 h1
    have hz : Chunk.count (grid0.coords t) (word (ms0_1 t) (hs0_1 t) (iblk m c 1 t)) = 0 := by
      rw [steps m c t hL]
      omega
    have hn : reached m c (t.val + 1) = reached m c t.val := by
      show min _ _ = min _ _
      omega
    rw [outsAt0_D m hH c t (by omega) h1 (by omega), hn]
    dsimp only [sout0_D_0, sout0_D_1, sout0_D_2, sout0_D_3]
    exact ⟨B.weights, B.biases, of_eq m c t (Point.D_carried (A := pre m c) (h := at_blocks m c t B.carried) (hz := hz) ..)⟩

attribute [local irreducible] outsAt0

/-- After every point but the last, what is carried is the position reached. -/
theorem after (n : ℕ) (hn : n < cfg0.N) (h7 : n < 7) : Good m c (reached m c (n + 1)) (outsAt0 m hH c n hn).2.1
    (outsAt0 m hH c n hn).2.2.1 (outsAt0 m hH c n hn).2.2.2.1 (outsAt0 m hH c n hn).2.2.2.2.1 := by
  induction n with
  | zero => exact first m c ⟨0, hn⟩ hL hH rfl
  | succ n ih =>
    have B := ih (Nat.lt_of_succ_lt hn) (Nat.lt_of_succ_lt h7)
    exact next m c ⟨n + 1, hn⟩ hL hH (Nat.succ_ne_zero n) h7 B

end Cert.Invariant
-- ==== Proof.PointE.lean ====
/- The last grid point, when it has steps: it makes its loops as the middle points do and stores the result. -/
module

public import proofs.«01_k».proof.Proof.Carry
public import proofs.«01_k».proof.Proof.Gen.KernelIdeal.Frame.RunE

@[expose] public section

set_option maxRecDepth 16384

noncomputable section

namespace Cert.Point

open Idealize.ShloMosaic Idealize.ShloMosaic.TcCoe Cert.KernelIdeal Cert.KernelIdeal.Gen Cert.Model Cert.Carry

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (c : Dev nD) (i : grid0.Coords)
  (x0 : Vec Ideal S16x256x512 .f32) (x1 : Vec Ideal S1 .i32) (x2 : Vec Ideal S16x1 .i32) (x3 : Vec Ideal S512x512 .f32)
  (x4 : Vec Ideal S512x64 .f32) (x5 : Vec Ideal S64x64 .f32) (x6 : Vec Ideal S64x64 .f32) (x7 : Vec Ideal S1x512 .f32)
  (x8 : Vec Ideal S1x64 .f32) (x9 : Vec Ideal S1x64 .f32) (x10 : Vec Ideal S1x64 .f32) (x11 : Vec Ideal S64x64 .f32)
  (x12 : Vec Ideal S1x64 .f32)
  (xs0 : Vec Ideal S512x64 .f32) (xs1 : Vec Ideal S1x64 .f32) (xs2 : Vec Ideal S16x64 .f32) (xs3 : Vec Ideal S16x64 .f32)
variable (hc0 : ¬cond0_0 i) (hc2 : cond0_2 i) (hc1 : cond0_1 i (word arg2 harg2 x1)) (k0_hw1 : k0_chk1 i (word arg2 harg2 x1))
  {A : ℕ → Fin 16 → Fin 64 → EReal} {n : ℕ}

attribute [local irreducible] st_k0_t1 st_k0_t2 st_k0_t3 st_k0_t4 Scf.trips k0_pay14 k0_pay16 k0_pay17 k0_chk1

set_option maxHeartbeats 1000000 in
/-- The result: the sums up to the position after the point's last step, divided by the lengths, through the last linear map. -/
theorem E_result (v : View sig .tc .vmem S16x64 .f32) (f) (h : Carried A x6 x2 (256 * (i 0).val) xs2 xs3)
    (hA : ∀ n : Fin 256, n.val < Chunk.count i (word arg2 harg2 x1) → ∀ b j,
      A (256 * (i 0).val + n.val) b j = (∑ k : Fin 512, x0 (ix3 b n k) * xs0 (ix2 k j)) + xs1 (ix2 0 j)) (r : Fin 16) (j : Fin 64) :
    v.read (Elt Ideal) (v.writes (Elt Ideal) f (kernelRun0_E (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 hc1 k0_hw1).1) (ix2 r j)
    = (∑ k : Fin 64, Ideal.div (tot A x6 (fun b => (x2 (ix2 b 0)).toInt) (256 * (i 0).val + Chunk.count i (word arg2 harg2 x1)) r k) (((x2 (ix2 r 0)).toInt : ℝ) : EReal)
        * x11 (ix2 k j)) + x12 (ix2 0 j) := by
  have hw : arg7.view.readAt (Elt Ideal) (Rect.unit ![0, 0] S64x64.size inb_S64x64_S64x64_0_0).toLoadRect (harg7.unread x6) = x6 := loaded arg7 harg7 _ x6
  have hl : k0_pay88 (arg3.view.readAt (Elt Ideal) (Rect.unit ![0, 0] S16x1.size inb_S16x1_S16x1_0_0).toLoadRect (harg3.unread x2)) = x2 :=
    (Blocks.lengths _).trans (loaded arg3 harg3 _ x2)
  unfold kernelRun0_E
  dsimp only
  sl_unfold_words
  rw [View.read_writes_full]
  rw [hw, hl, loaded arg12 harg12, loaded arg13 harg13]
  simp (config := {proj := false}) only [Prod.mk.eta]
  refine ends_result (loops_busy arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ c _ i _ k0_hw1 _ ?_ ?_ ?_ ?_ ?_ _ _ ?_ ?_) x11 x12 r j
  · rfl
  · rfl
  · rfl
  · rfl
  · rfl
  · rw [View.read_writes_full, loaded, loaded, loaded]
    exact filled i _ x0 xs0 xs1 hA
  · rw [loaded, loaded]
    exact h.start

end Cert.Point
-- ==== Proof.PointF.lean ====
/- The last grid point, when it has no steps: it stores the result of the state it finds. -/
module

public import proofs.«01_k».proof.Proof.Carry
public import proofs.«01_k».proof.Proof.Gen.KernelIdeal.Frame.RunF

@[expose] public section

set_option maxRecDepth 16384

noncomputable section

namespace Cert.Point

open Idealize.ShloMosaic Idealize.ShloMosaic.TcCoe Cert.KernelIdeal Cert.KernelIdeal.Gen Cert.Model Cert.Carry

variable (arg1 : Memref sig .tc .vmem S16x256x512 .f32) (harg1 : arg1.IsWhole)
  (arg2 : Memref sig .tc .smem S1 .i32) (harg2 : arg2.IsWhole)
  (arg3 : Memref sig .tc .vmem S16x1 .i32) (harg3 : arg3.IsWhole)
  (arg4 : Memref sig .tc .vmem S512x512 .f32) (harg4 : arg4.IsWhole)
  (arg5 : Memref sig .tc .vmem S512x64 .f32) (harg5 : arg5.IsWhole)
  (arg6 : Memref sig .tc .vmem S64x64 .f32) (harg6 : arg6.IsWhole)
  (arg7 : Memref sig .tc .vmem S64x64 .f32) (harg7 : arg7.IsWhole)
  (arg8 : Memref sig .tc .vmem S1x512 .f32) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S16x64 .f32) (harg14 : arg14.IsWhole)
  (arg15 : Memref sig .tc .vmem S512x64 .f32) (harg15 : arg15.IsWhole)
  (arg16 : Memref sig .tc .vmem S1x64 .f32) (harg16 : arg16.IsWhole)
  (arg17 : Memref sig .tc .vmem S16x64 .f32) (harg17 : arg17.IsWhole)
  (arg18 : Memref sig .tc .vmem S16x64 .f32) (harg18 : arg18.IsWhole)
  (arg19 : Memref sig .tc .vmem S4096x64 .f32) (harg19 : arg19.IsWhole)
variable (c : Dev nD) (i : grid0.Coords)
  (x0 : Vec Ideal S16x256x512 .f32) (x1 : Vec Ideal S1 .i32) (x2 : Vec Ideal S16x1 .i32) (x3 : Vec Ideal S512x512 .f32)
  (x4 : Vec Ideal S512x64 .f32) (x5 : Vec Ideal S64x64 .f32) (x6 : Vec Ideal S64x64 .f32) (x7 : Vec Ideal S1x512 .f32)
  (x8 : Vec Ideal S1x64 .f32) (x9 : Vec Ideal S1x64 .f32) (x10 : Vec Ideal S1x64 .f32) (x11 : Vec Ideal S64x64 .f32)
  (x12 : Vec Ideal S1x64 .f32)
  (xs0 : Vec Ideal S512x64 .f32) (xs1 : Vec Ideal S1x64 .f32) (xs2 : Vec Ideal S16x64 .f32) (xs3 : Vec Ideal S16x64 .f32) (xs4 : Vec Ideal S4096x64 .f32)
variable (hc0 : ¬cond0_0 i) (hc2 : cond0_2 i) (hc1 : ¬cond0_1 i (word arg2 harg2 x1)) (k0_hw1 : k0_chk1 i (word arg2 harg2 x1))
  {A : ℕ → Fin 16 → Fin 64 → EReal} {n : ℕ}

attribute [local irreducible] st_k0_t1 st_k0_t2 st_k0_t3 st_k0_t4 Scf.trips k0_pay14 k0_pay16 k0_pay17 k0_chk1

set_option maxHeartbeats 1000000 in
/-- The result: the sums of the position carried, divided by the lengths, through the last linear map. -/
theorem F_result (v : View sig .tc .vmem S16x64 .f32) (f) (h : Carried A x6 x2 n xs2 xs3)
    (hz : Chunk.count i (word arg2 harg2 x1) = 0) (r : Fin 16) (j : Fin 64) :
    v.read (Elt Ideal) (v.writes (Elt Ideal) f (kernelRun0_F (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc2 x0 x1 x2 x3 x4 x5 x6 x7 x8 x9 x10 x11 x12 xs0 xs1 xs2 xs3 xs4 hc1 k0_hw1).1) (ix2 r j)
    = (∑ k : Fin 64, Ideal.div (tot A x6 (fun b => (x2 (ix2 b 0)).toInt) n r k) (((x2 (ix2 r 0)).toInt : ℝ) : EReal)
        * x11 (ix2 k j)) + x12 (ix2 0 j) := by
  have hw : arg7.view.readAt (Elt Ideal) (Rect.unit ![0, 0] S64x64.size inb_S64x64_S64x64_0_0).toLoadRect (harg7.unread x6) = x6 := loaded arg7 harg7 _ x6
  have hl : k0_pay88 (arg3.view.readAt (Elt Ideal) (Rect.unit ![0, 0] S16x1.size inb_S16x1_S16x1_0_0).toLoadRect (harg3.unread x2)) = x2 :=
    (Blocks.lengths _).trans (loaded arg3 harg3 _ x2)
  unfold kernelRun0_F
  dsimp only
  sl_unfold_words
  rw [View.read_writes_full]
  rw [hw, hl, loaded arg12 harg12, loaded arg13 harg13]
  simp (config := {proj := false}) only [Prod.mk.eta]
  refine ends_result (loops_idle arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ c _ i _ k0_hw1 _ ?_ ?_ ?_ ?_ ?_ _ _ hz ?_) x11 x12 r j
  · rfl
  · rfl
  · rfl
  · rfl
  · rfl
  · rw [loaded, loaded]
    exact h.start

end Cert.Point
-- ==== Proof.Last.lean ====
/- The last grid point writes the mean of the hidden rows, classified; this is all of the result. -/
module

public import proofs.«01_k».proof.Proof.Invariant
public import proofs.«01_k».proof.Proof.PointE
public import proofs.«01_k».proof.Proof.PointF
public import Idealize.ShloMosaic.Lib.Pipeline.ValueKit.Point

@[expose] public section

set_option maxRecDepth 16384

noncomputable section

namespace Cert.Last

open Idealize.ShloMosaic Idealize.ShloMosaic.TcCoe Cert.KernelIdeal Cert.KernelIdeal.Gen Cert.Carry Cert.Launch Cert.Invariant Cert.Model

variable (m : (ℓ : Loc nD τ sig) → Buf (Elt Ideal) ℓ) (c : Dev nD)

/-- The lengths as integers. -/
abbrev lens (b : Fin 16) : ℤ := (m ((c : Thread nD τ).loc main_arg1) (ix1 b) : BitVec 32).toInt

/-- The rows' sums when position `n` is reached. -/
abbrev sums (n : ℕ) (r : Fin 16) (k : Fin 64) : EReal :=
  tot (pre m c) (m ((c : Thread nD τ).loc main_arg7)) (lens m c) n r k

/-- The classes weights. -/
abbrev classes : Vec Ideal S64x64 .f32 := m ((c : Thread nD τ).loc main_arg10)

/-- The classified mean of sums. -/
abbrev classified (S : Fin 16 → Fin 64 → EReal) (r : Fin 16) (j : Fin 64) : EReal :=
  (∑ k : Fin 64, Ideal.div (S r k) ((lens m c r : ℝ) : EReal) * classes m c (ix2 k j))
    + m ((c : Thread nD τ).loc main_arg11) (ix1 j)

/-- A point's blocks, read off the arguments. -/
theorem of_blocks (t : Fin cfg0.N) (n : ℕ) (r : Fin 16) (j : Fin 64) (lb : Vec Ideal S16x1 .i32) (wr wc : Vec Ideal S64x64 .f32)
    (bc : Vec Ideal S1x64 .f32) (h2 : lb = iblk m c 2 t) (h6 : wr = iblk m c 6 t) (h11 : wc = iblk m c 11 t)
    (h12 : bc = iblk m c 12 t) :
    (∑ k : Fin 64, Ideal.div (tot (pre m c) wr (fun b => (lb (ix2 b 0)).toInt) n r k)
        ((((lb (ix2 r 0)).toInt : ℤ) : ℝ) : EReal) * wc (ix2 k j)) + bc (ix2 0 j)
    = classified m c (sums m c n) r j := by
  have e2 : ∀ b, lb (ix2 b 0) = m ((c : Thread nD τ).loc main_arg1) (ix1 b) := fun b => by
    rw [h2, Reads.lengths_block]
    exact Reads.lengths m c b
  have e12 : bc (ix2 0 j) = m ((c : Thread nD τ).loc main_arg11) (ix1 j) := by
    rw [h12]
    exact Reads.bias_cls m c t j
  rw [h6, h11, Reads.weights_rec, Reads.weights_cls, e12]
  simp only [e2]

/-- What the last point writes. -/
theorem written (hL : 1 ≤ longest m c) (hH : Hyps m) (t : Fin cfg0.N) (h7 : t.val = 7) (B : Before m c t hH) (r : Fin 16) (j : Fin 64) :
    (outsAt0 m hH c t.val t.isLt).1 (ix2 r j) = classified m c (sums m c (reached m c 8)) r j := by
  by_cases h1 : cond0_1 (grid0.coords t) (word (ms0_1 t) (hs0_1 t) (iblk m c 1 t))
  · have hb := (busy m c t).1 h1
    have hn : reached m c 8
        = 256 * (grid0.coords t 0).val + Chunk.count (grid0.coords t) (word (ms0_1 t) (hs0_1 t) (iblk m c 1 t)) := by
      rw [steps m c t hL, coord]
      show min _ _ = _
      omega
    have hr : reached m c t.val = 256 * (grid0.coords t 0).val := by
      rw [coord]
      show min _ _ = _
      omega
    rw [outsAt0_E m hH c t (by omega) h1 (by omega), hn]
    dsimp only [out0_E_13]
    refine (Point.E_result (A := pre m c) (h := hr ▸ at_blocks m c t B.carried) (hA := fun n _ b j => row_of m c t hH B b n j) (r := r) (j := j) ..).trans ?_
    exact of_blocks m c t _ r j _ _ _ _ rfl rfl rfl rfl
  · have hb := mt (busy m c t).2 h1
    have hz : Chunk.count (grid0.coords t) (word (ms0_1 t) (hs0_1 t) (iblk m c 1 t)) = 0 := by
      rw [steps m c t hL]
      omega
    have hn : reached m c 8 = reached m c t.val := by
      show min _ _ = min _ _
      omega
    rw [outsAt0_F m hH c t (by omega) h1 (by omega), hn]
    dsimp only [out0_F_13]
    refine (Point.F_result (A := pre m c) (h := at_blocks m c t B.carried) (hz := hz) (r := r) (j := j) ..).trans ?_
    exact of_blocks m c t _ r j _ _ _ _ rfl rfl rfl rfl

attribute [local irreducible] outsAt0

/-- The result array, at the rows' sums when the last position is reached. -/
def result : Vec Ideal S16x64 .f32 := fun i => classified m c (sums m c (reached m c 8)) (i 0) (i 1)

/-- After the run the result array holds it. -/
theorem final (hL : 1 ≤ longest m c) (hH : Hyps m) : (dats m hH 0 c).arrAt 13 cfg0.N = result m c := by
  refine (dats m hH 0 c).arrAt_eq_of_after_last 13 t0_7 (by decide +kernel) _ fun j => ?_
  blk_simp
  rw [after0_13]
  have B : Before m c t0_7 hH := after m c hL hH 6 (by decide) (by decide)
  have e : (j : S16x64.Idx) = ix2 (j 0) (j 1) := funext fun a => match a with | ⟨0, _⟩ => rfl | ⟨1, _⟩ => rfl
  exact (congrArg (outsAt0 m hH c t0_7.val t0_7.isLt).1 e).trans (written m c hL hH t0_7 rfl B (j 0) (j 1))

end Cert.Last
-- ==== Proof.RefLoop.lean ====
/- The reference's loop on the buffers it carries: the carried buffers of a valuation, as a state; one trip takes the
   state of the buffers before it to the step of that state, so the state before trip `k` is the `k`-th step of the
   state at the loop's entry; and the result is read off the last one. -/
module

public import proofs.«01_k».proof.Proof.Gen.ReferenceIdeal.Run
public import proofs.«01_k».proof.Proof.Gen.ReferenceIdeal.Step

@[expose] public section

noncomputable section

namespace Cert.RefLoop

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The carried buffers of a valuation. -/
def stateOf (V : Valuation τ sig (Elt F)) : Step.State F where
  main_v17_7 := V (Proc.devRef .tc main_v17_7)
  main_v17_8 := V (Proc.devRef .tc main_v17_8)
  main_v17_0 := V (Proc.devRef .tc main_v17_0)
  main_v17_1 := V (Proc.devRef .tc main_v17_1)
  main_v17_2 := V (Proc.devRef .tc main_v17_2)
  main_v17_3 := V (Proc.devRef .tc main_v17_3)
  main_v17_4 := V (Proc.devRef .tc main_v17_4)
  main_v17_5 := V (Proc.devRef .tc main_v17_5)

/-- The trip's number, as its counter holds it. -/
def Numbered (V : Valuation τ sig (Elt F)) (j : ℕ) : Prop :=
  V (Proc.devRef .tc main_v17_6) = constantI S_ 32 (BitVec.ofNat 32 j)

/-- The counter steps to the next number. -/
theorem numbered_next {V : Valuation τ sig (Elt F)} {j : ℕ} (h : Numbered V j) : Numbered (STEP V) (j + 1) := by
  unfold Numbered at *
  rw [STEP_main_v17_6]
  unfold step_main_v17_6
  rw [h]
  funext i
  exact (BitVec.ofNat_add j 1).symm

set_option maxRecDepth 8192 in
/-- The hidden rows a trip leaves are the step's. -/
theorem hidden_next {V : Valuation τ sig (Elt F)} {j : ℕ} (h : Numbered V j) :
    step_main_v17_7 V = (Step.step j (stateOf V)).main_v17_7 := by
  unfold Numbered at h
  unfold step_main_v17_7 res_main_while0b_v40 res_main_while0b_v39
  rw [h]
  rfl

set_option maxRecDepth 8192 in
/-- The rows of outputs a trip leaves are the step's. -/
theorem outputs_next {V : Valuation τ sig (Elt F)} {j : ℕ} (h : Numbered V j) :
    step_main_v17_8 V = (Step.step j (stateOf V)).main_v17_8 := by
  unfold Numbered at h
  unfold step_main_v17_8 res_main_while0b_v40 res_main_while0b_v39
  rw [h]
  rfl

/-- One trip. -/
theorem state_next {V : Valuation τ sig (Elt F)} {j : ℕ} (h : Numbered V j) : stateOf (STEP V) = Step.step j (stateOf V) := by
  unfold stateOf
  rw [STEP_main_v17_7, STEP_main_v17_8, STEP_main_v17_0, STEP_main_v17_1, STEP_main_v17_2, STEP_main_v17_3, STEP_main_v17_4,
    STEP_main_v17_5, hidden_next h, outputs_next h]
  rfl

variable (m : (ℓ : Loc nD τ sig) → Buf (Elt F) ℓ) (c : Dev nD)

/-- The state that @main hands the first trip, of the arguments in memory. -/
def start : Step.State F :=
  Step.init (m ((c.tc : Thread nD τ).loc main_arg6)) (m ((c.tc : Thread nD τ).loc main_arg8)) (m ((c.tc : Thread nD τ).loc main_arg7))
    (m ((c.tc : Thread nD τ).loc main_arg9)) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

set_option maxRecDepth 65536 in
set_option maxHeartbeats 1000000 in
/-- At the entry the counter is zero … -/
theorem numbered_entry : Numbered (entryContents preI m c) 0 := by
  unfold Numbered
  simp only [entryContents, afterL_cons, afterL_nil]
  after_reads_simp
  rfl

set_option maxRecDepth 65536 in
set_option maxHeartbeats 4000000 in
/-- … and the carried buffers hold the starting state. -/
theorem state_entry : stateOf (entryContents preI m c) = start m c := by
  unfold stateOf start Step.init
  congr 1 <;> (simp only [entryContents, afterL_cons, afterL_nil]; after_reads_simp) <;> rfl

/-- The state before trip `k`. -/
def states : ℕ → Step.State F
  | 0 => start m c
  | k + 1 => Step.step k (states k)

/-- The buffers before trip `k` hold it, and the trip's number. -/
theorem state_at : ∀ k, Numbered (STEP^[k] (entryContents preI m c)) k ∧ stateOf (STEP^[k] (entryContents preI m c)) = states m c k
  | 0 => ⟨numbered_entry m c, state_entry m c⟩
  | k + 1 => by
    rw [Function.iterate_succ_apply']
    have h := state_at k
    exact ⟨numbered_next h.1, (state_next h.1).trans (congrArg (Step.step k) h.2)⟩

/-- The result is read off the last state. -/
theorem result_at (k : ℕ) : out_main_v27 (STEP^[k] (entryContents preI m c))
    = Step.R_main_v27 (states m c k) (m ((c.tc : Thread nD τ).loc main_arg1)) (m ((c.tc : Thread nD τ).loc main_arg10)) (m ((c.tc : Thread nD τ).loc main_arg11)) := by
  have e : (STEP^[k] (entryContents preI m c)) (Proc.devRef .tc main_v17_8) = (states m c k).main_v17_8 :=
    congrArg Step.State.main_v17_8 (state_at m c k).2
  unfold out_main_v27 Step.R_main_v27
  rw [e, iter_main_arg1 m c k, iter_main_arg10 m c k, iter_main_arg11 m c k]

end Cert.RefLoop

end
-- ==== Proof.RefStep.lean ====
/- One step of the reference in coordinates, for a number below the number of positions: the row of `xs` and of the mask
   it takes, the new hidden rows, and the outputs with one position written. -/
module

public import proofs.«01_k».proof.Proof.RefLoop
public import proofs.«01_k».proof.Proof.Model

@[expose] public section

set_option maxRecDepth 16384

noncomputable section

namespace Cert.RefStep

open Idealize.ShloMosaic Cert.ReferenceIdeal Cert.ReferenceIdeal.Gen Cert.ReferenceIdeal.Step

/-- A position's word is the position, clamped or not. -/
theorem position {j : ℕ} (h : j < 2048) : (min (max ((BitVec.ofNat 32 j).toInt) 0) ((2048 - 1 : ℕ) : ℤ)).toNat = j := by
  have e : (BitVec.ofNat 32 j).toInt = j := by
    rw [BitVec.toInt_eq_toNat_of_lt] <;> simp <;> omega
  rw [e]; omega

variable (s : State Ideal) {j : ℕ} (hj : j < 2048)

/-- The step's rows of `xs`. -/
theorem row_apply (b : Fin 16) (q : Fin 64) : b3 j s (ix2 b q) = s.main_v17_0 (ix3 ⟨j, hj⟩ b q) := by
  unfold b3
  rw [shapeCast_apply (b2 j s) _ (ix2 b q) (ix3 (0 : Fin 1) b q) (by simp [Shape.rowMajor_val_two, Shape.rowMajor_val_three])]
  unfold b2 Host.dynamicSlice
  refine extractStridedSlice_apply _ _ _ _ _ fun a => ?_
  match a with
  | ⟨0, _⟩ => exact (position hj).symm
  | ⟨1, _⟩ => exact (Nat.zero_add _).symm
  | ⟨2, _⟩ => exact (Nat.zero_add _).symm

/-- The step's mask. -/
theorem mask_apply (b : Fin 16) : b6 j s (ix1 b) = s.main_v17_1 (ix2 ⟨j, hj⟩ b) := by
  unfold b6
  rw [shapeCast_apply (b5 j s) _ (ix1 b) (ix2 (0 : Fin 1) b) (by simp [Shape.rowMajor_val_two, Shape.rowMajor_val_one])]
  unfold b5 Host.dynamicSlice
  refine extractStridedSlice_apply _ _ _ _ _ fun a => ?_
  match a with
  | ⟨0, _⟩ => exact (position hj).symm
  | ⟨1, _⟩ => exact (Nat.zero_add _).symm

/-- The mask over the rows' columns. -/
theorem masks_apply (b : Fin 16) (q : Fin 64) : b18 j s (ix2 b q) = s.main_v17_1 (ix2 ⟨j, hj⟩ b) := by
  rw [← mask_apply s hj b]
  unfold b18 b17
  pointwise

/-- The candidate hidden rows. -/
theorem new_apply (b : Fin 16) (q : Fin 64) : b16 j s (ix2 b q)
    = Ideal.tanh (∑ k : Fin 64, s.main_v17_0 (ix3 ⟨j, hj⟩ b k) * s.main_v17_2 (ix2 k q) + s.main_v17_3 (ix1 q)
        + ∑ k : Fin 64, s.main_v17_7 (ix2 b k) * s.main_v17_4 (ix2 k q) + s.main_v17_5 (ix1 q)) := by
  have e := row_apply s hj
  unfold b16 b15 b14 b13 b12 b11 b10 b9 b8 b7
  pointwise
  simp only [e]

/-- The hidden rows after the step. -/
theorem hidden_apply (b : Fin 16) (q : Fin 64) : (step j s).main_v17_7 (ix2 b q)
    = if s.main_v17_1 (ix2 ⟨j, hj⟩ b) = 1#1 then b16 j s (ix2 b q) else s.main_v17_7 (ix2 b q) := by
  rw [← masks_apply s hj b q]
  show b19 j s _ = _
  unfold b19
  pointwise
  rfl

/-- The position's outputs. -/
theorem output_apply (b : Fin 16) (q : Fin 64) : b24 j s (ix2 b q)
    = if s.main_v17_1 (ix2 ⟨j, hj⟩ b) = 1#1 then b16 j s (ix2 b q) else 0 := by
  rw [← masks_apply s hj b q]
  unfold b24 b23 b21 b20 b22
  pointwise
  rfl

include hj in
/-- The outputs after the step: one position written. -/
theorem outputs_apply (t : Fin 2048) (b : Fin 16) (q : Fin 64) : (step j s).main_v17_8 (ix3 t b q)
    = if t.val = j then b24 j s (ix2 b q) else s.main_v17_8 (ix3 t b q) := by
  show b28 j s _ = _
  unfold b28 Host.dynamicUpdateSlice updateSlice
  dsimp only
  by_cases e : t.val = j
  · rw [dif_pos, if_pos e]
    · unfold b25
      pointwise
      congr 1
    · intro a
      match a with
      | ⟨0, _⟩ => exact ⟨(position hj).le.trans e.ge, (Nat.lt_succ_of_le e.le).trans_eq (congrArg (· + 1) (position hj).symm)⟩
      | ⟨1, _⟩ => exact ⟨Nat.zero_le _, b.isLt.trans_eq (Nat.zero_add _).symm⟩
      | ⟨2, _⟩ => exact ⟨Nat.zero_le _, q.isLt.trans_eq (Nat.zero_add _).symm⟩
  · rw [dif_neg, if_neg e]
    intro h
    have h0 := h ⟨0, by decide⟩
    have p := position hj
    have l : j ≤ t.val := p.symm.le.trans h0.1
    have u : t.val < j + 1 := h0.2.trans_eq (congrArg (· + 1) p)
    omega

end Cert.RefStep

end
-- ==== Proof.RefValue.lean ====
/- The reference's states in coordinates: before trip `n` a row's hidden state is the recurrence at `n`, or at the row's
   length once that is past, and the outputs hold the recurrence at every position below `n` and below the row's length;
   so the result is the last linear map of the sums divided by the lengths. -/
module

public import proofs.«01_k».proof.Proof.RefStep
public import proofs.«01_k».proof.Proof.Rows

@[expose] public section

set_option maxRecDepth 16384

noncomputable section

namespace Cert.RefValue

open Idealize.ShloMosaic Cert.ReferenceIdeal Cert.ReferenceIdeal.Gen Cert.ReferenceIdeal.Step Cert.Model Cert.Rows

variable (x : FVec Ideal ⟨3, ![16, 2048, 512]⟩ .f32) (len : IVec ⟨1, ![16]⟩ 32) (wf : FVec Ideal ⟨2, ![512, 512]⟩ .f32)
  (bf : FVec Ideal ⟨1, ![512]⟩ .f32) (wr : FVec Ideal ⟨2, ![512, 64]⟩ .f32) (br : FVec Ideal ⟨1, ![64]⟩ .f32)
  (wi wh : FVec Ideal ⟨2, ![64, 64]⟩ .f32) (bi bh : FVec Ideal ⟨1, ![64]⟩ .f32)

/-- The features, as the host computes them before the loop. -/
theorem features (t : Fin 2048) (b : Fin 16) (q : Fin 64) :
    A_main_v8 (F := Ideal) x len wf bf wr br (ix3 t b q) = feature x wf bf wr br t b q := by
  unfold A_main_v8
  rw [transpose_apply _ _ _ (ix3 t b q) (ix3 b t q) (fun a => match a with | ⟨0, _⟩ => rfl | ⟨1, _⟩ => rfl | ⟨2, _⟩ => rfl)]
  unfold A_main_v7 A_main_v6 A_main_v5 A_main_v4 A_main_v3 A_main_v2 A_main_v1 A_main_v0 feature
  pointwise

/-- The mask, as the host computes it before the loop. -/
theorem mask (t : Fin 2048) (b : Fin 16) :
    A_main_v14 (F := Ideal) x len wf bf wr br (ix2 t b) = 1#1 ↔ (t.val : ℤ) < (len (ix1 b)).toInt := by
  have e : A_main_v14 (F := Ideal) x len wf bf wr br (ix2 t b) = IntOp.cmpi .slt (BitVec.ofNat 32 t.val) (len (ix1 b)) := by
    unfold A_main_v14 A_main_v13 A_main_v11 K_main_v12 K_main_v10 K_main_v9
    pointwise
  have p : (BitVec.ofNat 32 t.val).toInt = t.val := by
    rw [BitVec.toInt_eq_toNat_of_lt] <;> simp <;> omega
  rw [e, ← p]
  by_cases c : (BitVec.ofNat 32 t.val).toInt < (len (ix1 b)).toInt <;> simp [IntOp.cmpi, BitVec.slt, c]

/-- What a state holds before trip `n`. -/
structure At (n : ℕ) (s : State Ideal) : Prop where
  of_xs : s.main_v17_0 = A_main_v8 (F := Ideal) x len wf bf wr br
  of_mask : s.main_v17_1 = A_main_v14 (F := Ideal) x len wf bf wr br
  of_wi : s.main_v17_2 = wi
  of_bi : s.main_v17_3 = bi
  of_wh : s.main_v17_4 = wh
  of_bh : s.main_v17_5 = bh
  hidden : ∀ b : Fin 16, (n : ℤ) ≤ (len (ix1 b)).toInt → ∀ q, s.main_v17_7 (ix2 b q) = hid (plain x wf bf wr br wi bi bh) wh n b q
  outs : ∀ (t : Fin 2048) (b : Fin 16) (q : Fin 64), s.main_v17_8 (ix3 t b q)
    = if t.val < n ∧ (t.val : ℤ) < (len (ix1 b)).toInt then Model.hid (plain x wf bf wr br wi bi bh) wh (t.val + 1) b q else 0

/-- The starting state. -/
theorem at_start : At x len wf bf wr br wi wh bi bh 0 (Step.init wi bi wh bh x len wf bf wr br) where
  of_xs := rfl
  of_mask := rfl
  of_wi := rfl
  of_bi := rfl
  of_wh := rfl
  of_bh := rfl
  hidden := fun b _ q => by
    show K_main_v15 (F := Ideal) (ix2 b q) = 0
    unfold K_main_v15 K_main_cst
    pointwise
  outs := fun t b q => by
    rw [if_neg (by omega)]
    show K_main_v16 (F := Ideal) (ix3 t b q) = 0
    unfold K_main_v16 K_main_cst_0
    pointwise

variable {x len wf bf wr br wi wh bi bh}

/-- The candidate hidden rows of trip `n`, at a row that reaches it. -/
theorem At.new {n : ℕ} {s : State Ideal} (h : At x len wf bf wr br wi wh bi bh n s) (hn : n < 2048) (b : Fin 16)
    (hb : (n : ℤ) < (len (ix1 b)).toInt) (q : Fin 64) :
    b16 n s (ix2 b q) = Model.hid (plain x wf bf wr br wi bi bh) wh (n + 1) b q := by
  rw [RefStep.new_apply s hn, h.of_xs, h.of_wi, h.of_bi, h.of_wh, h.of_bh]
  simp only [h.hidden b hb.le, features]
  show _ = Ideal.tanh (plain x wf bf wr br wi bi bh n b q + _)
  unfold plain
  rw [dif_pos hn, add_right_comm]

/-- One trip. -/
theorem At.next {n : ℕ} {s : State Ideal} (h : At x len wf bf wr br wi wh bi bh n s) (hn : n < 2048) :
    At x len wf bf wr br wi wh bi bh (n + 1) (step n s) where
  of_xs := h.of_xs
  of_mask := h.of_mask
  of_wi := h.of_wi
  of_bi := h.of_bi
  of_wh := h.of_wh
  of_bh := h.of_bh
  hidden := fun b hb q => by
    have hb' : (n : ℤ) < (len (ix1 b)).toInt := by omega
    rw [RefStep.hidden_apply s hn, if_pos (by rw [h.of_mask]; exact (RefValue.mask x len wf bf wr br ⟨n, hn⟩ b).mpr hb'), h.new hn b hb']
  outs := fun t b q => by
    rw [RefStep.outputs_apply s hn, RefStep.output_apply s hn, h.of_mask]
    by_cases e : t.val = n
    · rw [if_pos e]
      by_cases c : (n : ℤ) < (len (ix1 b)).toInt
      · rw [if_pos ((RefValue.mask x len wf bf wr br ⟨n, hn⟩ b).mpr c), if_pos ⟨by omega, by omega⟩, h.new hn b c, e]
      · rw [if_neg (fun k => c ((RefValue.mask x len wf bf wr br ⟨n, hn⟩ b).mp k)), if_neg (fun k => c (by omega))]
    · rw [if_neg e, h.outs]
      exact if_congr (by omega) rfl rfl

/-- The last state's outputs, summed over the positions. -/
theorem At.sum {s : State Ideal} (h : At x len wf bf wr br wi wh bi bh 2048 s) (b : Fin 16) (q : Fin 64) :
    ∑ t : Fin 2048, s.main_v17_8 (ix3 t b q)
    = tot (plain x wf bf wr br wi bi bh) wh (fun b => (len (ix1 b)).toInt) 2048 b q := by
  unfold tot
  rw [← Fin.sum_univ_eq_sum_range (fun τ => if (τ : ℤ) < (len (ix1 b)).toInt then Model.hid (plain x wf bf wr br wi bi bh) wh (τ + 1) b q else 0) 2048]
  refine Finset.sum_congr rfl fun t _ => ?_
  rw [h.outs]
  exact if_congr ⟨fun k => k.2, fun k => ⟨t.isLt, k⟩⟩ rfl rfl

/-- The result, read off the last state. -/
theorem At.result {s : State Ideal} (h : At x len wf bf wr br wi wh bi bh 2048 s) (wc : FVec Ideal ⟨2, ![64, 64]⟩ .f32)
    (bc : FVec Ideal ⟨1, ![64]⟩ .f32) (r : Fin 16) (j : Fin 64) : R_main_v27 s len wc bc (ix2 r j)
    = (∑ k : Fin 64, Ideal.div (tot (plain x wf bf wr br wi bi bh) wh (fun b => (len (ix1 b)).toInt) 2048 r k)
        (((len (ix1 r)).toInt : ℝ) : EReal) * wc (ix2 k j)) + bc (ix1 j) := by
  unfold R_main_v27
  pointwise
  simp only [h.sum]
  rfl

end Cert.RefValue

end
-- ==== Proof.RefRun.lean ====
/- The reference's run: its result array holds the classified mean of the rows' sums over every position. -/
module

public import proofs.«01_k».proof.Proof.RefLoop
public import proofs.«01_k».proof.Proof.RefValue

@[expose] public section

noncomputable section

namespace Cert.RefRun

open Idealize.ShloMosaic Idealize.ShloMosaic.TcCoe Cert.ReferenceIdeal Cert.ReferenceIdeal.Gen

variable (m : (ℓ : Loc nD τ sig) → Buf (Elt Ideal) ℓ) (c : Dev nD)

/-- Before every trip the state is the one the loop's number calls for. -/
theorem before (n : ℕ) (hn : n ≤ 2048) : RefValue.At (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) n (RefLoop.states m c n) := by
  induction n with
  | zero => exact RefValue.at_start ..
  | succ n ih => exact (ih (by omega)).next (by omega)

/-- The result is read off the state after the last trip. -/
theorem result (r : Fin 16) (j : Fin 64) :
    Value.out_main_v27 (Value.STEP^[2048] (StableHlo.entryContents Value.preI m c)) (ix2 r j)
    = (∑ k : Fin 64, Ideal.div (Model.tot (Rows.plain (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg8)) (m ((c.tc : Thread nD τ).loc main_arg9)))
          (m ((c.tc : Thread nD τ).loc main_arg7)) (fun b => (m ((c.tc : Thread nD τ).loc main_arg1) (ix1 b) : BitVec 32).toInt) 2048 r k)
        ((((m ((c.tc : Thread nD τ).loc main_arg1) (ix1 r) : BitVec 32).toInt : ℤ) : ℝ) : EReal)
          * (m ((c.tc : Thread nD τ).loc main_arg10) : Vec Ideal S64x64 .f32) (ix2 k j)) + m ((c.tc : Thread nD τ).loc main_arg11) (ix1 j) := by
  rw [RefLoop.result_at m c 2048]
  exact (before m c 2048 le_rfl).result _ _ r j

end Cert.RefRun
-- ==== Proof.Value.lean ====
/- The value claim: from equal arguments the idealized kernel and the reference end with equal results. -/
module

public import proofs.«01_k».proof.Proof.Last
public import proofs.«01_k».proof.Proof.RefRun
public import proofs.«01_k».proof.Proof.Launch
public import proofs.«01_k».proof.Proof.Gen.Pre_steps_finite
public import proofs.«01_k».proof.Defs

@[expose] public section

noncomputable section

namespace Cert.Proof

open Idealize.ShloMosaic Idealize.ShloMosaic.TcCoe Idealize.SL.Sem

/-- The kernel's sums at the position it stops at are the reference's over every position. -/
theorem sums_all (m : (ℓ : Loc Cert.KernelIdeal.nD Cert.KernelIdeal.τ Cert.KernelIdeal.sig) → Buf (Elt Ideal) ℓ)
    (c : Dev Cert.KernelIdeal.nD)
    (g : Bounds.Given (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg4))
      (m ((c : Thread Cert.KernelIdeal.nD Cert.KernelIdeal.τ).loc Cert.KernelIdeal.main_arg6)))
    (r : Fin 16) (k : Fin 64) : Last.sums m c (Invariant.reached m c 8) r k
    = Model.tot (Rows.plain (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg8))
      (m ((c : Thread Cert.KernelIdeal.nD Cert.KernelIdeal.τ).loc Cert.KernelIdeal.main_arg9)))
      (m ((c : Thread Cert.KernelIdeal.nD Cert.KernelIdeal.τ).loc Cert.KernelIdeal.main_arg7)) (Last.lens m c) 2048 r k := by
  rw [Rows.tot_congr _ (Last.lens m c) r (fun t ht j => Rows.agree (g := g) (t := t) (b := r) (ht := ht) (j := j) ..) 2048 k]
  by_cases h : (Invariant.longest m c).toNat ≤ 2048
  · have e : Invariant.reached m c 8 = (Invariant.longest m c).toNat := min_eq_right h
    rw [e]
    refine (Rows.tot_past _ _ _ r h ?_ k).symm
    have hr : Last.lens m c r ≤ Invariant.longest m c := g.le (ix1 r)
    omega
  · have e : Invariant.reached m c 8 = 2048 := min_eq_left (by omega)
    rw [e]

/-- The value claim. -/
theorem value : Cert.algebraic_KernelIdeal_ReferenceIdeal_pre_steps_finite := fun m ρ m' ρ' h a => by
  have g := fun c => Bounds.given_of (h c)
  have hL : ∀ c, 1 ≤ Invariant.longest m c := fun c => (g c).pos
  have hH := Bounds.hyps_ideal m hL
  refine ⟨fun c => Last.result m c, ?_, ?_⟩
  · refine (θ_run _ _ _).mono (fun _ k c => ?_) (θ_run_and (Launch.run_main m ρ hH) (Launch.unchanged m ρ hH))
    exact ⟨((k.1 c).1 13).trans (Last.final m c (hL c) hH), k.2 c⟩
  · refine (θ_run _ _ _).mono (fun _ k c => ⟨(k c).1.trans ?_, (k c).2⟩) (Cert.ReferenceIdeal.Value.run (F := Ideal) m' ρ')
    funext i
    have e : i = ix2 (i 0) (i 1) := funext fun a => match a with | ⟨0, _⟩ => rfl | ⟨1, _⟩ => rfl
    rw [e]
    refine (RefRun.result m' c (i 0) (i 1)).trans ?_
    obtain ⟨a0, a1, a2, a3, a4, a5, a6, a7, a8, a9, a10, a11⟩ := a c
    rw [a0, a1, a2, a3, a4, a5, a6, a7, a8, a9, a10, a11]
    exact congrArg (fun S => Last.classified m c S (i 0) (i 1)) (funext fun r => funext fun k => (sums_all m c (g c) r k).symm)

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_first_positive
public import proofs.«01_k».proof.Proof.Gen.Pre_steps_finite
public import proofs.«01_k».proof.Proof.FramesFinite
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_first_positive.Gen.facts,
    Cert.Pre_steps_finite.Gen.facts, frame_kernel, frame_ideal, frame_ideal_finite, frame_reference, frame_reference_finite,
    preserves, value⟩

end Cert.Proof

end
